-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S250x20x4 : Shape := ⟨3, ![250, 20, 4]⟩
abbrev S249x20x4 : Shape := ⟨3, ![249, 20, 4]⟩
abbrev S1x20x4 : Shape := ⟨3, ![1, 20, 4]⟩
abbrev S5000x4 : Shape := ⟨2, ![5000, 4]⟩
abbrev S248x20x4 : Shape := ⟨3, ![248, 20, 4]⟩
abbrev S2x20x4 : Shape := ⟨3, ![2, 20, 4]⟩
abbrev S_ : Shape := ⟨0, ![]⟩
abbrev S5120x4 : Shape := ⟨2, ![5120, 4]⟩
abbrev S5120x20 : Shape := ⟨2, ![5120, 20]⟩
abbrev S160x4 : Shape := ⟨2, ![160, 4]⟩
abbrev S160x20 : Shape := ⟨2, ![160, 20]⟩
abbrev S16 : Shape := ⟨1, ![16]⟩
abbrev S5000x5000 : Shape := ⟨2, ![5000, 5000]⟩
abbrev S640x20 : Shape := ⟨2, ![640, 20]⟩
abbrev S640x5000 : Shape := ⟨2, ![640, 5000]⟩
abbrev S20x640 : Shape := ⟨2, ![20, 640]⟩
abbrev S640x640 : Shape := ⟨2, ![640, 640]⟩
abbrev S640x520 : Shape := ⟨2, ![640, 520]⟩
abbrev S1x5000x5000 : Shape := ⟨3, ![1, 5000, 5000]⟩

abbrev nBuf : Table → Nat
  | .hbm => 18
  | .local .tc .vmem => 4
  | .local .scVector .vmem => 3
  | _ => 0

abbrev bufTy : (tb : Table) → Fin (nBuf tb) → BufTy
  | .hbm, ⟨0, _⟩ => ⟨S250x20x4, .f32⟩
  | .hbm, ⟨1, _⟩ => ⟨S249x20x4, .f32⟩
  | .hbm, ⟨2, _⟩ => ⟨S1x20x4, .f32⟩
  | .hbm, ⟨3, _⟩ => ⟨S250x20x4, .f32⟩
  | .hbm, ⟨4, _⟩ => ⟨S5000x4, .f32⟩
  | .hbm, ⟨5, _⟩ => ⟨S248x20x4, .f32⟩
  | .hbm, ⟨6, _⟩ => ⟨S2x20x4, .f32⟩
  | .hbm, ⟨7, _⟩ => ⟨S250x20x4, .f32⟩
  | .hbm, ⟨8, _⟩ => ⟨S5000x4, .f32⟩
  | .hbm, ⟨9, _⟩ => ⟨S_, .i32⟩
  | .hbm, ⟨10, _⟩ => ⟨S_, .f32⟩
  | .hbm, ⟨11, _⟩ => ⟨S5120x4, .f32⟩
  | .hbm, ⟨12, _⟩ => ⟨S_, .i32⟩
  | .hbm, ⟨13, _⟩ => ⟨S_, .f32⟩
  | .hbm, ⟨14, _⟩ => ⟨S5120x4, .f32⟩
  | .hbm, ⟨15, _⟩ => ⟨S5120x20, .f32⟩
  | .hbm, ⟨16, _⟩ => ⟨S5000x5000, .f32⟩
  | .hbm, ⟨17, _⟩ => ⟨S1x5000x5000, .f32⟩
  | .local .tc .vmem, ⟨0, _⟩ => ⟨S640x20, .f32⟩
  | .local .tc .vmem, ⟨1, _⟩ => ⟨S640x20, .f32⟩
  | .local .tc .vmem, ⟨2, _⟩ => ⟨S640x5000, .f32⟩
  | .local .tc .vmem, ⟨3, _⟩ => ⟨S640x5000, .f32⟩
  | .local .scVector .vmem, ⟨0, _⟩ => ⟨S160x4, .f32⟩
  | .local .scVector .vmem, ⟨1, _⟩ => ⟨S160x4, .f32⟩
  | .local .scVector .vmem, ⟨2, _⟩ => ⟨S160x20, .f32⟩
  | _, _ => ⟨S250x20x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev main_v1 : Ref sig .tc := ⟨.hbm, 4, rfl⟩
abbrev main_call1_v0 : Ref sig .tc := ⟨.hbm, 5, rfl⟩
abbrev main_call1_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call2_v0 : Ref sig .tc := ⟨.hbm, 10, rfl⟩
abbrev main_v4 : Ref sig .tc := ⟨.hbm, 11, rfl⟩
abbrev main_c_0 : Ref sig .tc := ⟨.hbm, 12, rfl⟩
abbrev main_call3_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v4_scv : Ref sig .scVector := ⟨.hbm, 11, rfl⟩
abbrev main_v5_scv : Ref sig .scVector := ⟨.hbm, 14, rfl⟩
abbrev main_v6_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v7 : BitVec 32 := Scalar.muli c160_i32 v1
  let c0_i32_1 : BitVec 32 := 0#32
  ![v7.toNat, 0]
@[reducible] def k0_t1_loop (i : grid0.Coords) : Scf.Loop 32 :=
  let c0_i32_18 : BitVec 32 := 0#32
  let c160_i32_10 : BitVec 32 := 160#32
  let c0_i32_9 : BitVec 32 := 0#32
  let c5000_i32 : BitVec 32 := 5000#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v7 : BitVec 32 := Scalar.muli c160_i32 v1
  let v16 : BitVec 32 := Scalar.subi c5000_i32 v7
  let v17 : BitVec 32 := Scalar.maxsi c0_i32_9 v16
  let v18 : BitVec 32 := Scalar.minsi c160_i32_10 v17
  let c20_i32 : BitVec 32 := 20#32
  let v19 : BitVec 32 := Scalar.muli v18 c20_i32
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c32_i32 : BitVec 32 := 32#32
  let c0_i32_13 : BitVec 32 := 0#32
  let v26 : BitVec 1 := Scalar.cmpi .sgt c32_i32 c0_i32_13
  let v27 : BitVec 32 := Scalar.extui v26
  let c0_i32_14 : BitVec 32 := 0#32
  let v28 : BitVec 1 := Scalar.cmpi .slt c32_i32 c0_i32_14
  let v29 : BitVec 32 := Scalar.extui v28
  let v30 : BitVec 32 := Scalar.subi v27 v29
  let v31 : BitVec 1 := Scalar.cmpi .ne v25 v30
  let v32 : BitVec 32 := Scalar.remsi v19 c32_i32
  let c0_i32_15 : BitVec 32 := 0#32
  let v33 : BitVec 1 := Scalar.cmpi .ne v32 c0_i32_15
  let v34 : BitVec 1 := Scalar.andi v31 v33
  let v20 : BitVec 32 := Scalar.divsi v19 c32_i32
  let c1_i32_16 : BitVec 32 := 1#32
  let v35 : BitVec 32 := Scalar.subi v20 c1_i32_16
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_20 : BitVec 32 := 1#32
  ⟨c0_i32_18, v41, c1_i32_20⟩

def k0_chk1 (v3 : IVec S16 32) (v4 : IVec S16 32) (v5 : IVec S16 32) (v6 : IVec S16 32) (v69 : IVec S16 32) : Prop :=
  (∀ a x, ((![v69, v3] : Fin 2 → IVec S16 32) a x).toNat < S160x4.size a) ∧
  (∀ a x, ((![v69, v4] : Fin 2 → IVec S16 32) a x).toNat < S160x4.size a) ∧
  (∀ a x, ((![v69, v5] : Fin 2 → IVec S16 32) a x).toNat < S160x4.size a) ∧
  (∀ a x, ((![v69, v6] : Fin 2 → IVec S16 32) a x).toNat < S160x4.size a)
theorem k0_idx1_inb : ∀ (v3 : IVec S16 32) (v4 : IVec S16 32) (v5 : IVec S16 32) (v6 : IVec S16 32) (v69 : IVec S16 32) (k0_hw1 : k0_chk1 v3 v4 v5 v6 v69), ∀ a x, ((![v69, v3] : Fin 2 → IVec S16 32) a x).toNat < S160x4.size a := fun v3 v4 v5 v6 v69 k0_hw1 => k0_hw1.1
theorem k0_idx2_inb : ∀ (v3 : IVec S16 32) (v4 : IVec S16 32) (v5 : IVec S16 32) (v6 : IVec S16 32) (v69 : IVec S16 32) (k0_hw1 : k0_chk1 v3 v4 v5 v6 v69), ∀ a x, ((![v69, v4] : Fin 2 → IVec S16 32) a x).toNat < S160x4.size a := fun v3 v4 v5 v6 v69 k0_hw1 => k0_hw1.2.1
theorem k0_idx3_inb : ∀ (v3 : IVec S16 32) (v4 : IVec S16 32) (v5 : IVec S16 32) (v6 : IVec S16 32) (v69 : IVec S16 32) (k0_hw1 : k0_chk1 v3 v4 v5 v6 v69), ∀ a x, ((![v69, v5] : Fin 2 → IVec S16 32) a x).toNat < S160x4.size a := fun v3 v4 v5 v6 v69 k0_hw1 => k0_hw1.2.2.1
theorem k0_idx4_inb : ∀ (v3 : IVec S16 32) (v4 : IVec S16 32) (v5 : IVec S16 32) (v6 : IVec S16 32) (v69 : IVec S16 32) (k0_hw1 : k0_chk1 v3 v4 v5 v6 v69), ∀ a x, ((![v69, v6] : Fin 2 → IVec S16 32) a x).toNat < S160x4.size a := fun v3 v4 v5 v6 v69 k0_hw1 => k0_hw1.2.2.2

def k0_chk2 (v3 : IVec S16 32) (v4 : IVec S16 32) (v5 : IVec S16 32) (v6 : IVec S16 32) (v155 : IVec S16 32) : Prop :=
  (∀ a x, ((![v155, v3] : Fin 2 → IVec S16 32) a x).toNat < S160x4.size a) ∧
  (∀ a x, ((![v155, v4] : Fin 2 → IVec S16 32) a x).toNat < S160x4.size a) ∧
  (∀ a x, ((![v155, v5] : Fin 2 → IVec S16 32) a x).toNat < S160x4.size a) ∧
  (∀ a x, ((![v155, v6] : Fin 2 → IVec S16 32) a x).toNat < S160x4.size a)
theorem k0_idx5_inb : ∀ (v3 : IVec S16 32) (v4 : IVec S16 32) (v5 : IVec S16 32) (v6 : IVec S16 32) (v155 : IVec S16 32) (k0_hw2 : k0_chk2 v3 v4 v5 v6 v155), ∀ a x, ((![v155, v3] : Fin 2 → IVec S16 32) a x).toNat < S160x4.size a := fun v3 v4 v5 v6 v155 k0_hw2 => k0_hw2.1
theorem k0_idx6_inb : ∀ (v3 : IVec S16 32) (v4 : IVec S16 32) (v5 : IVec S16 32) (v6 : IVec S16 32) (v155 : IVec S16 32) (k0_hw2 : k0_chk2 v3 v4 v5 v6 v155), ∀ a x, ((![v155, v4] : Fin 2 → IVec S16 32) a x).toNat < S160x4.size a := fun v3 v4 v5 v6 v155 k0_hw2 => k0_hw2.2.1
theorem k0_idx7_inb : ∀ (v3 : IVec S16 32) (v4 : IVec S16 32) (v5 : IVec S16 32) (v6 : IVec S16 32) (v155 : IVec S16 32) (k0_hw2 : k0_chk2 v3 v4 v5 v6 v155), ∀ a x, ((![v155, v5] : Fin 2 → IVec S16 32) a x).toNat < S160x4.size a := fun v3 v4 v5 v6 v155 k0_hw2 => k0_hw2.2.2.1
theorem k0_idx8_inb : ∀ (v3 : IVec S16 32) (v4 : IVec S16 32) (v5 : IVec S16 32) (v6 : IVec S16 32) (v155 : IVec S16 32) (k0_hw2 : k0_chk2 v3 v4 v5 v6 v155), ∀ a x, ((![v155, v6] : Fin 2 → IVec S16 32) a x).toNat < S160x4.size a := fun v3 v4 v5 v6 v155 k0_hw2 => k0_hw2.2.2.2

def k0_chk3 (v69 : IVec S16 32) (v85 : IVec S16 32) : Prop :=
  (∀ a x, ((![v69, v85] : Fin 2 → IVec S16 32) a x).toNat < S160x20.size a)
theorem k0_idx9_inb : ∀ (v69 : IVec S16 32) (v85 : IVec S16 32) (k0_hw3 : k0_chk3 v69 v85), ∀ a x, ((![v69, v85] : Fin 2 → IVec S16 32) a x).toNat < S160x20.size a := fun v69 v85 k0_hw3 => k0_hw3

def k0_chk4 (v3 : IVec S16 32) (v4 : IVec S16 32) (v5 : IVec S16 32) (v6 : IVec S16 32) (v224 : IVec S16 32) : Prop :=
  (∀ a x, ((![v224, v3] : Fin 2 → IVec S16 32) a x).toNat < S160x4.size a) ∧
  (∀ a x, ((![v224, v4] : Fin 2 → IVec S16 32) a x).toNat < S160x4.size a) ∧
  (∀ a x, ((![v224, v5] : Fin 2 → IVec S16 32) a x).toNat < S160x4.size a) ∧
  (∀ a x, ((![v224, v6] : Fin 2 → IVec S16 32) a x).toNat < S160x4.size a)
theorem k0_idx10_inb : ∀ (v3 : IVec S16 32) (v4 : IVec S16 32) (v5 : IVec S16 32) (v6 : IVec S16 32) (v224 : IVec S16 32) (k0_hw4 : k0_chk4 v3 v4 v5 v6 v224), ∀ a x, ((![v224, v3] : Fin 2 → IVec S16 32) a x).toNat < S160x4.size a := fun v3 v4 v5 v6 v224 k0_hw4 => k0_hw4.1
theorem k0_idx11_inb : ∀ (v3 : IVec S16 32) (v4 : IVec S16 32) (v5 : IVec S16 32) (v6 : IVec S16 32) (v224 : IVec S16 32) (k0_hw4 : k0_chk4 v3 v4 v5 v6 v224), ∀ a x, ((![v224, v4] : Fin 2 → IVec S16 32) a x).toNat < S160x4.size a := fun v3 v4 v5 v6 v224 k0_hw4 => k0_hw4.2.1
theorem k0_idx12_inb : ∀ (v3 : IVec S16 32) (v4 : IVec S16 32) (v5 : IVec S16 32) (v6 : IVec S16 32) (v224 : IVec S16 32) (k0_hw4 : k0_chk4 v3 v4 v5 v6 v224), ∀ a x, ((![v224, v5] : Fin 2 → IVec S16 32) a x).toNat < S160x4.size a := fun v3 v4 v5 v6 v224 k0_hw4 => k0_hw4.2.2.1
theorem k0_idx13_inb : ∀ (v3 : IVec S16 32) (v4 : IVec S16 32) (v5 : IVec S16 32) (v6 : IVec S16 32) (v224 : IVec S16 32) (k0_hw4 : k0_chk4 v3 v4 v5 v6 v224), ∀ a x, ((![v224, v6] : Fin 2 → IVec S16 32) a x).toNat < S160x4.size a := fun v3 v4 v5 v6 v224 k0_hw4 => k0_hw4.2.2.2

def k0_chk5 (v3 : IVec S16 32) (v4 : IVec S16 32) (v5 : IVec S16 32) (v6 : IVec S16 32) (v310 : IVec S16 32) : Prop :=
  (∀ a x, ((![v310, v3] : Fin 2 → IVec S16 32) a x).toNat < S160x4.size a) ∧
  (∀ a x, ((![v310, v4] : Fin 2 → IVec S16 32) a x).toNat < S160x4.size a) ∧
  (∀ a x, ((![v310, v5] : Fin 2 → IVec S16 32) a x).toNat < S160x4.size a) ∧
  (∀ a x, ((![v310, v6] : Fin 2 → IVec S16 32) a x).toNat < S160x4.size a)
theorem k0_idx14_inb : ∀ (v3 : IVec S16 32) (v4 : IVec S16 32) (v5 : IVec S16 32) (v6 : IVec S16 32) (v310 : IVec S16 32) (k0_hw5 : k0_chk5 v3 v4 v5 v6 v310), ∀ a x, ((![v310, v3] : Fin 2 → IVec S16 32) a x).toNat < S160x4.size a := fun v3 v4 v5 v6 v310 k0_hw5 => k0_hw5.1
theorem k0_idx15_inb : ∀ (v3 : IVec S16 32) (v4 : IVec S16 32) (v5 : IVec S16 32) (v6 : IVec S16 32) (v310 : IVec S16 32) (k0_hw5 : k0_chk5 v3 v4 v5 v6 v310), ∀ a x, ((![v310, v4] : Fin 2 → IVec S16 32) a x).toNat < S160x4.size a := fun v3 v4 v5 v6 v310 k0_hw5 => k0_hw5.2.1
theorem k0_idx16_inb : ∀ (v3 : IVec S16 32) (v4 : IVec S16 32) (v5 : IVec S16 32) (v6 : IVec S16 32) (v310 : IVec S16 32) (k0_hw5 : k0_chk5 v3 v4 v5 v6 v310), ∀ a x, ((![v310, v5] : Fin 2 → IVec S16 32) a x).toNat < S160x4.size a := fun v3 v4 v5 v6 v310 k0_hw5 => k0_hw5.2.2.1
theorem k0_idx17_inb : ∀ (v3 : IVec S16 32) (v4 : IVec S16 32) (v5 : IVec S16 32) (v6 : IVec S16 32) (v310 : IVec S16 32) (k0_hw5 : k0_chk5 v3 v4 v5 v6 v310), ∀ a x, ((![v310, v6] : Fin 2 → IVec S16 32) a x).toNat < S160x4.size a := fun v3 v4 v5 v6 v310 k0_hw5 => k0_hw5.2.2.2

def k0_chk6 (v224 : IVec S16 32) (v240 : IVec S16 32) : Prop :=
  (∀ a x, ((![v224, v240] : Fin 2 → IVec S16 32) a x).toNat < S160x20.size a)
theorem k0_idx18_inb : ∀ (v224 : IVec S16 32) (v240 : IVec S16 32) (k0_hw6 : k0_chk6 v224 v240), ∀ a x, ((![v224, v240] : Fin 2 → IVec S16 32) a x).toNat < S160x20.size a := fun v224 v240 k0_hw6 => k0_hw6
@[reducible] def k0_t2_loop (i : grid0.Coords) : Scf.Loop 32 :=
  let c0_i32_18 : BitVec 32 := 0#32
  let c160_i32_10 : BitVec 32 := 160#32
  let c0_i32_9 : BitVec 32 := 0#32
  let c5000_i32 : BitVec 32 := 5000#32
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v7 : BitVec 32 := Scalar.muli c160_i32 v1
  let v16 : BitVec 32 := Scalar.subi c5000_i32 v7
  let v17 : BitVec 32 := Scalar.maxsi c0_i32_9 v16
  let v18 : BitVec 32 := Scalar.minsi c160_i32_10 v17
  let c20_i32 : BitVec 32 := 20#32
  let v19 : BitVec 32 := Scalar.muli v18 c20_i32
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .slt v19 c0_i32_12
  let v24 : BitVec 32 := Scalar.extui v23
  let v25 : BitVec 32 := Scalar.subi v22 v24
  let c32_i32 : BitVec 32 := 32#32
  let c0_i32_13 : BitVec 32 := 0#32
  let v26 : BitVec 1 := Scalar.cmpi .sgt c32_i32 c0_i32_13
  let v27 : BitVec 32 := Scalar.extui v26
  let c0_i32_14 : BitVec 32 := 0#32
  let v28 : BitVec 1 := Scalar.cmpi .slt c32_i32 c0_i32_14
  let v29 : BitVec 32 := Scalar.extui v28
  let v30 : BitVec 32 := Scalar.subi v27 v29
  let v31 : BitVec 1 := Scalar.cmpi .ne v25 v30
  let v32 : BitVec 32 := Scalar.remsi v19 c32_i32
  let c0_i32_15 : BitVec 32 := 0#32
  let v33 : BitVec 1 := Scalar.cmpi .ne v32 c0_i32_15
  let v34 : BitVec 1 := Scalar.andi v31 v33
  let v20 : BitVec 32 := Scalar.divsi v19 c32_i32
  let c1_i32_16 : BitVec 32 := 1#32
  let v35 : BitVec 32 := Scalar.subi v20 c1_i32_16
  let v36 : BitVec 32 := Scalar.select v34 v35 v20
  let v37 : BitVec 32 := Scalar.subi v36 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let v38 : BitVec 32 := Scalar.addi c0_i32_18 v37
  let c1_i32_21 : BitVec 32 := 1#32
  ⟨v41, v38, c1_i32_21⟩

def k0_chk7 (i : grid0.Coords) (v3 : IVec S16 32) (v4 : IVec S16 32) (v5 : IVec S16 32) (v6 : IVec S16 32) (k0_t2 : Fin (k0_t2_loop i).trips) (v69 : IVec S16 32) : Prop :=
  (∀ a x, ((![v69, v3] : Fin 2 → IVec S16 32) a x).toNat < S160x4.size a) ∧
  (∀ a x, ((![v69, v4] : Fin 2 → IVec S16 32) a x).toNat < S160x4.size a) ∧
  (∀ a x, ((![v69, v5] : Fin 2 → IVec S16 32) a x).toNat < S160x4.size a) ∧
  (∀ a x, ((![v69, v6] : Fin 2 → IVec S16 32) a x).toNat < S160x4.size a)
theorem k0_idx19_inb : ∀ (i : grid0.Coords) (v3 : IVec S16 32) (v4 : IVec S16 32) (v5 : IVec S16 32) (v6 : IVec S16 32) (k0_t2 : Fin (k0_t2_loop i).trips) (v69 : IVec S16 32) (k0_hw7 : k0_chk7 i v3 v4 v5 v6 k0_t2 v69), ∀ a x, ((![v69, v3] : Fin 2 → IVec S16 32) a x).toNat < S160x4.size a := fun i v3 v4 v5 v6 k0_t2 v69 k0_hw7 => k0_hw7.1
theorem k0_idx20_inb : ∀ (i : grid0.Coords) (v3 : IVec S16 32) (v4 : IVec S16 32) (v5 : IVec S16 32) (v6 : IVec S16 32) (k0_t2 : Fin (k0_t2_loop i).trips) (v69 : IVec S16 32) (k0_hw7 : k0_chk7 i v3 v4 v5 v6 k0_t2 v69), ∀ a x, ((![v69, v4] : Fin 2 → IVec S16 32) a x).toNat < S160x4.size a := fun i v3 v4 v5 v6 k0_t2 v69 k0_hw7 => k0_hw7.2.1
theorem k0_idx21_inb : ∀ (i : grid0.Coords) (v3 : IVec S16 32) (v4 : IVec S16 32) (v5 : IVec S16 32) (v6 : IVec S16 32) (k0_t2 : Fin (k0_t2_loop i).trips) (v69 : IVec S16 32) (k0_hw7 : k0_chk7 i v3 v4 v5 v6 k0_t2 v69), ∀ a x, ((![v69, v5] : Fin 2 → IVec S16 32) a x).toNat < S160x4.size a := fun i v3 v4 v5 v6 k0_t2 v69 k0_hw7 => k0_hw7.2.2.1
theorem k0_idx22_inb : ∀ (i : grid0.Coords) (v3 : IVec S16 32) (v4 : IVec S16 32) (v5 : IVec S16 32) (v6 : IVec S16 32) (k0_t2 : Fin (k0_t2_loop i).trips) (v69 : IVec S16 32) (k0_hw7 : k0_chk7 i v3 v4 v5 v6 k0_t2 v69), ∀ a x, ((![v69, v6] : Fin 2 → IVec S16 32) a x).toNat < S160x4.size a := fun i v3 v4 v5 v6 k0_t2 v69 k0_hw7 => k0_hw7.2.2.2

def k0_chk8 (i : grid0.Coords) (v3 : IVec S16 32) (v4 : IVec S16 32) (v5 : IVec S16 32) (v6 : IVec S16 32) (k0_t2 : Fin (k0_t2_loop i).trips) (v155 : IVec S16 32) : Prop :=
  (∀ a x, ((![v155, v3] : Fin 2 → IVec S16 32) a x).toNat < S160x4.size a) ∧
  (∀ a x, ((![v155, v4] : Fin 2 → IVec S16 32) a x).toNat < S160x4.size a) ∧
  (∀ a x, ((![v155, v5] : Fin 2 → IVec S16 32) a x).toNat < S160x4.size a) ∧
  (∀ a x, ((![v155, v6] : Fin 2 → IVec S16 32) a x).toNat < S160x4.size a)
theorem k0_idx23_inb : ∀ (i : grid0.Coords) (v3 : IVec S16 32) (v4 : IVec S16 32) (v5 : IVec S16 32) (v6 : IVec S16 32) (k0_t2 : Fin (k0_t2_loop i).trips) (v155 : IVec S16 32) (k0_hw8 : k0_chk8 i v3 v4 v5 v6 k0_t2 v155), ∀ a x, ((![v155, v3] : Fin 2 → IVec S16 32) a x).toNat < S160x4.size a := fun i v3 v4 v5 v6 k0_t2 v155 k0_hw8 => k0_hw8.1
theorem k0_idx24_inb : ∀ (i : grid0.Coords) (v3 : IVec S16 32) (v4 : IVec S16 32) (v5 : IVec S16 32) (v6 : IVec S16 32) (k0_t2 : Fin (k0_t2_loop i).trips) (v155 : IVec S16 32) (k0_hw8 : k0_chk8 i v3 v4 v5 v6 k0_t2 v155), ∀ a x, ((![v155, v4] : Fin 2 → IVec S16 32) a x).toNat < S160x4.size a := fun i v3 v4 v5 v6 k0_t2 v155 k0_hw8 => k0_hw8.2.1
theorem k0_idx25_inb : ∀ (i : grid0.Coords) (v3 : IVec S16 32) (v4 : IVec S16 32) (v5 : IVec S16 32) (v6 : IVec S16 32) (k0_t2 : Fin (k0_t2_loop i).trips) (v155 : IVec S16 32) (k0_hw8 : k0_chk8 i v3 v4 v5 v6 k0_t2 v155), ∀ a x, ((![v155, v5] : Fin 2 → IVec S16 32) a x).toNat < S160x4.size a := fun i v3 v4 v5 v6 k0_t2 v155 k0_hw8 => k0_hw8.2.2.1
theorem k0_idx26_inb : ∀ (i : grid0.Coords) (v3 : IVec S16 32) (v4 : IVec S16 32) (v5 : IVec S16 32) (v6 : IVec S16 32) (k0_t2 : Fin (k0_t2_loop i).trips) (v155 : IVec S16 32) (k0_hw8 : k0_chk8 i v3 v4 v5 v6 k0_t2 v155), ∀ a x, ((![v155, v6] : Fin 2 → IVec S16 32) a x).toNat < S160x4.size a := fun i v3 v4 v5 v6 k0_t2 v155 k0_hw8 => k0_hw8.2.2.2

def k0_chk9 (i : grid0.Coords) (k0_t2 : Fin (k0_t2_loop i).trips) (v69 : IVec S16 32) (v85 : IVec S16 32) : Prop :=
  (∀ a x, ((![v69, v85] : Fin 2 → IVec S16 32) a x).toNat < S160x20.size a)
theorem k0_idx27_inb : ∀ (i : grid0.Coords) (k0_t2 : Fin (k0_t2_loop i).trips) (v69 : IVec S16 32) (v85 : IVec S16 32) (k0_hw9 : k0_chk9 i k0_t2 v69 v85), ∀ a x, ((![v69, v85] : Fin 2 → IVec S16 32) a x).toNat < S160x20.size a := fun i k0_t2 v69 v85 k0_hw9 => k0_hw9

def k0_chk10 (i : grid0.Coords) (v3 : IVec S16 32) (v4 : IVec S16 32) (v5 : IVec S16 32) (v6 : IVec S16 32) (k0_t2 : Fin (k0_t2_loop i).trips) (v224 : IVec S16 32) : Prop :=
  (∀ a x, ((![v224, v3] : Fin 2 → IVec S16 32) a x).toNat < S160x4.size a) ∧
  (∀ a x, ((![v224, v4] : Fin 2 → IVec S16 32) a x).toNat < S160x4.size a) ∧
  (∀ a x, ((![v224, v5] : Fin 2 → IVec S16 32) a x).toNat < S160x4.size a) ∧
  (∀ a x, ((![v224, v6] : Fin 2 → IVec S16 32) a x).toNat < S160x4.size a)
theorem k0_idx28_inb : ∀ (i : grid0.Coords) (v3 : IVec S16 32) (v4 : IVec S16 32) (v5 : IVec S16 32) (v6 : IVec S16 32) (k0_t2 : Fin (k0_t2_loop i).trips) (v224 : IVec S16 32) (k0_hw10 : k0_chk10 i v3 v4 v5 v6 k0_t2 v224), ∀ a x, ((![v224, v3] : Fin 2 → IVec S16 32) a x).toNat < S160x4.size a := fun i v3 v4 v5 v6 k0_t2 v224 k0_hw10 => k0_hw10.1
theorem k0_idx29_inb : ∀ (i : grid0.Coords) (v3 : IVec S16 32) (v4 : IVec S16 32) (v5 : IVec S16 32) (v6 : IVec S16 32) (k0_t2 : Fin (k0_t2_loop i).trips) (v224 : IVec S16 32) (k0_hw10 : k0_chk10 i v3 v4 v5 v6 k0_t2 v224), ∀ a x, ((![v224, v4] : Fin 2 → IVec S16 32) a x).toNat < S160x4.size a := fun i v3 v4 v5 v6 k0_t2 v224 k0_hw10 => k0_hw10.2.1
theorem k0_idx30_inb : ∀ (i : grid0.Coords) (v3 : IVec S16 32) (v4 : IVec S16 32) (v5 : IVec S16 32) (v6 : IVec S16 32) (k0_t2 : Fin (k0_t2_loop i).trips) (v224 : IVec S16 32) (k0_hw10 : k0_chk10 i v3 v4 v5 v6 k0_t2 v224), ∀ a x, ((![v224, v5] : Fin 2 → IVec S16 32) a x).toNat < S160x4.size a := fun i v3 v4 v5 v6 k0_t2 v224 k0_hw10 => k0_hw10.2.2.1
theorem k0_idx31_inb : ∀ (i : grid0.Coords) (v3 : IVec S16 32) (v4 : IVec S16 32) (v5 : IVec S16 32) (v6 : IVec S16 32) (k0_t2 : Fin (k0_t2_loop i).trips) (v224 : IVec S16 32) (k0_hw10 : k0_chk10 i v3 v4 v5 v6 k0_t2 v224), ∀ a x, ((![v224, v6] : Fin 2 → IVec S16 32) a x).toNat < S160x4.size a := fun i v3 v4 v5 v6 k0_t2 v224 k0_hw10 => k0_hw10.2.2.2

def k0_chk11 (i : grid0.Coords) (v3 : IVec S16 32) (v4 : IVec S16 32) (v5 : IVec S16 32) (v6 : IVec S16 32) (k0_t2 : Fin (k0_t2_loop i).trips) (v310 : IVec S16 32) : Prop :=
  (∀ a x, ((![v310, v3] : Fin 2 → IVec S16 32) a x).toNat < S160x4.size a) ∧
  (∀ a x, ((![v310, v4] : Fin 2 → IVec S16 32) a x).toNat < S160x4.size a) ∧
  (∀ a x, ((![v310, v5] : Fin 2 → IVec S16 32) a x).toNat < S160x4.size a) ∧
  (∀ a x, ((![v310, v6] : Fin 2 → IVec S16 32) a x).toNat < S160x4.size a)
theorem k0_idx32_inb : ∀ (i : grid0.Coords) (v3 : IVec S16 32) (v4 : IVec S16 32) (v5 : IVec S16 32) (v6 : IVec S16 32) (k0_t2 : Fin (k0_t2_loop i).trips) (v310 : IVec S16 32) (k0_hw11 : k0_chk11 i v3 v4 v5 v6 k0_t2 v310), ∀ a x, ((![v310, v3] : Fin 2 → IVec S16 32) a x).toNat < S160x4.size a := fun i v3 v4 v5 v6 k0_t2 v310 k0_hw11 => k0_hw11.1
theorem k0_idx33_inb : ∀ (i : grid0.Coords) (v3 : IVec S16 32) (v4 : IVec S16 32) (v5 : IVec S16 32) (v6 : IVec S16 32) (k0_t2 : Fin (k0_t2_loop i).trips) (v310 : IVec S16 32) (k0_hw11 : k0_chk11 i v3 v4 v5 v6 k0_t2 v310), ∀ a x, ((![v310, v4] : Fin 2 → IVec S16 32) a x).toNat < S160x4.size a := fun i v3 v4 v5 v6 k0_t2 v310 k0_hw11 => k0_hw11.2.1
theorem k0_idx34_inb : ∀ (i : grid0.Coords) (v3 : IVec S16 32) (v4 : IVec S16 32) (v5 : IVec S16 32) (v6 : IVec S16 32) (k0_t2 : Fin (k0_t2_loop i).trips) (v310 : IVec S16 32) (k0_hw11 : k0_chk11 i v3 v4 v5 v6 k0_t2 v310), ∀ a x, ((![v310, v5] : Fin 2 → IVec S16 32) a x).toNat < S160x4.size a := fun i v3 v4 v5 v6 k0_t2 v310 k0_hw11 => k0_hw11.2.2.1
theorem k0_idx35_inb : ∀ (i : grid0.Coords) (v3 : IVec S16 32) (v4 : IVec S16 32) (v5 : IVec S16 32) (v6 : IVec S16 32) (k0_t2 : Fin (k0_t2_loop i).trips) (v310 : IVec S16 32) (k0_hw11 : k0_chk11 i v3 v4 v5 v6 k0_t2 v310), ∀ a x, ((![v310, v6] : Fin 2 → IVec S16 32) a x).toNat < S160x4.size a := fun i v3 v4 v5 v6 k0_t2 v310 k0_hw11 => k0_hw11.2.2.2

def k0_chk12 (i : grid0.Coords) (k0_t2 : Fin (k0_t2_loop i).trips) (v224 : IVec S16 32) (v240 : IVec S16 32) : Prop :=
  (∀ a x, ((![v224, v240] : Fin 2 → IVec S16 32) a x).toNat < S160x20.size a)
theorem k0_idx36_inb : ∀ (i : grid0.Coords) (k0_t2 : Fin (k0_t2_loop i).trips) (v224 : IVec S16 32) (v240 : IVec S16 32) (k0_hw12 : k0_chk12 i k0_t2 v224 v240), ∀ a x, ((![v224, v240] : Fin 2 → IVec S16 32) a x).toNat < S160x20.size a := fun i k0_t2 v224 v240 k0_hw12 => k0_hw12
def k0_off2 (i : grid0.Coords) : Fin 2 → Nat :=
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v7 : BitVec 32 := Scalar.muli c160_i32 v1
  let c0_i32_22_r0 : BitVec 32 := 0#32
  ![v7.toNat, 0]
abbrev grid1 : Pipeline.Grid := ⟨1, ![8], ![false]⟩

def k1_cond1 (i : grid1.Coords) : BitVec 1 :=
  let arg0 : BitVec 32 := BitVec.ofNat 32 (i 0).val
  let c7_i32 : BitVec 32 := 7#32
  let v80 : BitVec 1 := Scalar.cmpi .slt arg0 c7_i32
  let v81 : BitVec 32 := Scalar.extui v80
  let c0_i32_24 : BitVec 32 := 0#32
  let v82 : BitVec 1 := Scalar.cmpi .ne v81 c0_i32_24
  v82

def k1_off1 (i : grid1.Coords) : Fin 2 → Nat :=
  let c0_27 : Index := 0#32
  let arg0 : BitVec 32 := BitVec.ofNat 32 (i 0).val
  let c640_i32 : BitVec 32 := 640#32
  let v86 : BitVec 32 := Scalar.muli arg0 c640_i32
  let v87 : Index := Scalar.indexCast v86
  ![0, v87.toNat]
def k1_cond2 (i : grid1.Coords) : BitVec 1 :=
  let arg0 : BitVec 32 := BitVec.ofNat 32 (i 0).val
  let c7_i32_25 : BitVec 32 := 7#32
  let v83 : BitVec 1 := Scalar.cmpi .eq arg0 c7_i32_25
  let v84 : BitVec 32 := Scalar.extui v83
  let c0_i32_26 : BitVec 32 := 0#32
  let v85 : BitVec 1 := Scalar.cmpi .ne v84 c0_i32_26
  v85

def k1_off2 (i : grid1.Coords) : Fin 2 → Nat :=
  let c0_27 : Index := 0#32
  let arg0 : BitVec 32 := BitVec.ofNat 32 (i 0).val
  let c640_i32 : BitVec 32 := 640#32
  let v87 : BitVec 32 := Scalar.muli arg0 c640_i32
  let v88 : Index := Scalar.indexCast v87
  ![0, v88.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S640x5000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S250x20x4 : Shape := ⟨3, ![250, 20, 4]⟩
abbrev S249x20x4 : Shape := ⟨3, ![249, 20, 4]⟩
abbrev S249x20x1x4 : Shape := ⟨4, ![249, 20, 1, 4]⟩
abbrev S249x1x20x4 : Shape := ⟨4, ![249, 1, 20, 4]⟩
abbrev S249x20x1x1 : Shape := ⟨4, ![249, 20, 1, 1]⟩
abbrev S249x20x1 : Shape := ⟨3, ![249, 20, 1]⟩
abbrev S249x1x20x1 : Shape := ⟨4, ![249, 1, 20, 1]⟩
abbrev S249x1x20 : Shape := ⟨3, ![249, 1, 20]⟩
abbrev S249x20x20 : Shape := ⟨3, ![249, 20, 20]⟩
abbrev S_ : Shape := ⟨0, ![]⟩
abbrev S249 : Shape := ⟨1, ![249]⟩
abbrev S249x1 : Shape := ⟨2, ![249, 1]⟩
abbrev S20 : Shape := ⟨1, ![20]⟩
abbrev S1x20 : Shape := ⟨2, ![1, 20]⟩
abbrev S249x20 : Shape := ⟨2, ![249, 20]⟩
abbrev S5000x5000 : Shape := ⟨2, ![5000, 5000]⟩
abbrev S249x20x20x1 : Shape := ⟨4, ![249, 20, 20, 1]⟩
abbrev S249x20x20x2 : Shape := ⟨4, ![249, 20, 20, 2]⟩
abbrev S1x5000x5000 : Shape := ⟨3, ![1, 5000, 5000]⟩

abbrev nBuf : Space → Nat
  | .hbm => 141
  | .vmem => 0
  | .smem => 0
  | _ => 0

abbrev hbmTy0_0 (i : Nat) : BufTy := match i % 128 with
  | 0 => ⟨S250x20x4, .f32⟩
  | 1 => ⟨S249x20x4, .f32⟩
  | 2 => ⟨S249x20x4, .f32⟩
  | 3 => ⟨S249x20x1x4, .f32⟩
  | 4 => ⟨S249x1x20x4, .f32⟩
  | 5 => ⟨S249x20x1x1, .f32⟩
  | 6 => ⟨S249x20x1, .f32⟩
  | 7 => ⟨S249x1x20x1, .f32⟩
  | 8 => ⟨S249x1x20, .f32⟩
  | 9 => ⟨S249x20x20, .f32⟩
  | 10 => ⟨S249x20x20, .f32⟩
  | 11 => ⟨S249x20x20, .f32⟩
  | 12 => ⟨S249x20x1x1, .f32⟩
  | 13 => ⟨S249x20x1, .f32⟩
  | 14 => ⟨S249x1x20x1, .f32⟩
  | 15 => ⟨S249x1x20, .f32⟩
  | 16 => ⟨S249x20x20, .f32⟩
  | 17 => ⟨S249x20x20, .f32⟩
  | 18 => ⟨S249x20x20, .f32⟩
  | 19 => ⟨S249x20x1x1, .f32⟩
  | 20 => ⟨S249x20x1, .f32⟩
  | 21 => ⟨S249x1x20x1, .f32⟩
  | 22 => ⟨S249x1x20, .f32⟩
  | 23 => ⟨S249x20x20, .f32⟩
  | 24 => ⟨S249x20x20, .f32⟩
  | 25 => ⟨S249x20x20, .f32⟩
  | 26 => ⟨S249x20x1x1, .f32⟩
  | 27 => ⟨S249x20x1, .f32⟩
  | 28 => ⟨S249x1x20x1, .f32⟩
  | 29 => ⟨S249x1x20, .f32⟩
  | 30 => ⟨S249x20x20, .f32⟩
  | 31 => ⟨S249x20x20, .f32⟩
  | 32 => ⟨S249x20x20, .f32⟩
  | 33 => ⟨S249x20x20, .f32⟩
  | 34 => ⟨S_, .f32⟩
  | 35 => ⟨S249x20x20, .f32⟩
  | 36 => ⟨S249x20x20, .f32⟩
  | 37 => ⟨S249x20x20, .f32⟩
  | 38 => ⟨S_, .f32⟩
  | 39 => ⟨S249x20x20, .f32⟩
  | 40 => ⟨S249x20x20, .f32⟩
  | 41 => ⟨S249x20x20, .f32⟩
  | 42 => ⟨S249x20x1x1, .f32⟩
  | 43 => ⟨S249x20x1, .f32⟩
  | 44 => ⟨S249x20x1x1, .f32⟩
  | 45 => ⟨S249x20x1, .f32⟩
  | 46 => ⟨S249x20x1, .f32⟩
  | 47 => ⟨S_, .f32⟩
  | 48 => ⟨S249x20x1, .f32⟩
  | 49 => ⟨S249x20x1, .f32⟩
  | 50 => ⟨S249x20x1x1, .f32⟩
  | 51 => ⟨S249x20x1, .f32⟩
  | 52 => ⟨S249x20x1x1, .f32⟩
  | 53 => ⟨S249x20x1, .f32⟩
  | 54 => ⟨S249x20x1, .f32⟩
  | 55 => ⟨S_, .f32⟩
  | 56 => ⟨S249x20x1, .f32⟩
  | 57 => ⟨S249x20x1, .f32⟩
  | 58 => ⟨S249x20x1, .f32⟩
  | 59 => ⟨S249x1x20x1, .f32⟩
  | 60 => ⟨S249x1x20, .f32⟩
  | 61 => ⟨S249x1x20x1, .f32⟩
  | 62 => ⟨S249x1x20, .f32⟩
  | 63 => ⟨S249x1x20, .f32⟩
  | 64 => ⟨S_, .f32⟩
  | 65 => ⟨S249x1x20, .f32⟩
  | 66 => ⟨S249x1x20, .f32⟩
  | 67 => ⟨S249x1x20x1, .f32⟩
  | 68 => ⟨S249x1x20, .f32⟩
  | 69 => ⟨S249x1x20x1, .f32⟩
  | 70 => ⟨S249x1x20, .f32⟩
  | 71 => ⟨S249x1x20, .f32⟩
  | 72 => ⟨S_, .f32⟩
  | 73 => ⟨S249x1x20, .f32⟩
  | 74 => ⟨S249x1x20, .f32⟩
  | 75 => ⟨S249x1x20, .f32⟩
  | 76 => ⟨S249x20x20, .f32⟩
  | 77 => ⟨S249x20x20, .f32⟩
  | 78 => ⟨S249x20x20, .f32⟩
  | 79 => ⟨S249x20x20, .f32⟩
  | 80 => ⟨S249x20x20, .f32⟩
  | 81 => ⟨S249, .i32⟩
  | 82 => ⟨S_, .i32⟩
  | 83 => ⟨S249, .i32⟩
  | 84 => ⟨S249, .i32⟩
  | 85 => ⟨S_, .i32⟩
  | 86 => ⟨S249, .i32⟩
  | 87 => ⟨S249, .i32⟩
  | 88 => ⟨S249x1, .i32⟩
  | 89 => ⟨S20, .i32⟩
  | 90 => ⟨S1x20, .i32⟩
  | 91 => ⟨S249x20, .i32⟩
  | 92 => ⟨S249x20, .i32⟩
  | 93 => ⟨S249x20, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S249x20, .i32⟩
  | 101 => ⟨S249x20, .i32⟩
  | 102 => ⟨S_, .i32⟩
  | 103 => ⟨S249x20, .i32⟩
  | 104 => ⟨S249x20, .i1⟩
  | 105 => ⟨S_, .i32⟩
  | 106 => ⟨S249x20, .i32⟩
  | 107 => ⟨S249x20, .i1⟩
  | 108 => ⟨S_, .i32⟩
  | 109 => ⟨S_, .i1⟩
  | 110 => ⟨S249x20, .i1⟩
  | 111 => ⟨S249x20, .i1⟩
  | 112 => ⟨S249x20, .i1⟩
  | 113 => ⟨S249x20, .i32⟩
  | 114 => ⟨S249x20, .i32⟩
  | 115 => ⟨S249x20, .i32⟩
  | 116 => ⟨S_, .f32⟩
  | 117 => ⟨S5000x5000, .f32⟩
  | 118 => ⟨S249x20x1, .i32⟩
  | 119 => ⟨S249x1x20, .i32⟩
  | 120 => ⟨S_, .i32⟩
  | 121 => ⟨S249x20x1, .i32⟩
  | 122 => ⟨S249x20x1, .i1⟩
  | 123 => ⟨S_, .i32⟩
  | 124 => ⟨S249x20x1, .i32⟩
  | 125 => ⟨S249x20x1, .i32⟩
  | 126 => ⟨S249x20x1, .i32⟩
  | 127 => ⟨S_, .i32⟩
  | _ => ⟨S250x20x4, .f32⟩

abbrev hbmTy0_1 (i : Nat) : BufTy := match i % 128 with
  | 0 => ⟨S249x1x20, .i32⟩
  | 1 => ⟨S249x1x20, .i1⟩
  | 2 => ⟨S_, .i32⟩
  | 3 => ⟨S249x1x20, .i32⟩
  | 4 => ⟨S249x1x20, .i32⟩
  | 5 => ⟨S249x1x20, .i32⟩
  | 6 => ⟨S249x20x20, .i32⟩
  | 7 => ⟨S249x20x20, .i32⟩
  | 8 => ⟨S249x20x20x1, .i32⟩
  | 9 => ⟨S249x20x20x1, .i32⟩
  | 10 => ⟨S249x20x20x2, .i32⟩
  | 11 => ⟨S5000x5000, .f32⟩
  | 12 => ⟨S1x5000x5000, .f32⟩
  | _ => ⟨S250x20x4, .f32⟩

abbrev hbmTy (i : Nat) : BufTy := match i / 128 with
  | 0 => hbmTy0_0 i
  | 1 => hbmTy0_1 i
  | _ => ⟨S250x20x4, .f32⟩

abbrev bufTy : (tb : Table) → Fin (tcTables nBuf tb) → BufTy
  | .hbm, ⟨i, _⟩ => hbmTy i
  | _, _ => ⟨S250x20x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_cst : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_cst_0 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_cst_1 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_cst_2 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst_3 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_cst_4 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_c : Ref sig .tc := ⟨.hbm, 82, rfl⟩
abbrev main_v75 : Ref sig .tc := ⟨.hbm, 83, rfl⟩
abbrev main_v76 : Ref sig .tc := ⟨.hbm, 84, rfl⟩
abbrev main_c_5 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_c_6 : Ref sig .tc := ⟨.hbm, 94, rfl⟩
abbrev main_call0_v0 : Ref sig .tc := ⟨.hbm, 95, rfl⟩
abbrev main_call0_c : Ref sig .tc := ⟨.hbm, 96, rfl⟩
abbrev main_call0_v1 : Ref sig .tc := ⟨.hbm, 97, rfl⟩
abbrev main_call0_c_0 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_c_1 : Ref sig .tc := ⟨.hbm, 102, rfl⟩
abbrev main_call0_v5 : Ref sig .tc := ⟨.hbm, 103, rfl⟩
abbrev main_call0_v6 : Ref sig .tc := ⟨.hbm, 104, rfl⟩
abbrev main_call0_c_2 : Ref sig .tc := ⟨.hbm, 105, rfl⟩
abbrev main_call0_v7 : Ref sig .tc := ⟨.hbm, 106, rfl⟩
abbrev main_call0_v8 : Ref sig .tc := ⟨.hbm, 107, rfl⟩
abbrev main_call0_c_3 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_v12 : Ref sig .tc := ⟨.hbm, 112, rfl⟩
abbrev main_call0_v13 : Ref sig .tc := ⟨.hbm, 113, rfl⟩
abbrev main_call0_v14 : Ref sig .tc := ⟨.hbm, 114, rfl⟩
abbrev main_v85 : Ref sig .tc := ⟨.hbm, 115, rfl⟩
abbrev main_cst_7 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_c_8 : Ref sig .tc := ⟨.hbm, 120, rfl⟩
abbrev main_v89 : Ref sig .tc := ⟨.hbm, 121, rfl⟩
abbrev main_v90 : Ref sig .tc := ⟨.hbm, 122, rfl⟩
abbrev main_c_9 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_10 : Ref sig .tc := ⟨.hbm, 127, rfl⟩
abbrev main_v94 : Ref sig .tc := ⟨.hbm, 128, rfl⟩
abbrev main_v95 : Ref sig .tc := ⟨.hbm, 129, rfl⟩
abbrev main_c_11 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]
-- ==== Proof.Words.lean ====
/-
  The integers the band kernel computes, lane by lane. A tile walks its rows' pairs `f = 32 q + lane` (and `+ 16`)
  and reads `f / 20` as the row and `f % 20` as the partner, both by the signed floor-division and remainder idioms
  the kernel prints. Every word is that of a natural number below 5120, so each idiom is the natural quotient or
  remainder; this file says so for each payload the kernel names, and gives the loop's trip count.
-/
module

public import proofs.«01_k».proof.Defs
public import Idealize.ShloMosaic.Lib.Routing.Words
public import proofs.«01_k».proof.Proof.Gen.KernelIdeal
public import proofs.«01_k».proof.Proof.Gen.KernelIdeal.Skeleton

@[expose] public section

noncomputable section

namespace Cert.Proof.Band

open Cert.KernelIdeal Cert.KernelIdeal.Gen
open Idealize.ShloMosaic Idealize.ShloMosaic.Routing

/-! ## Signed floor division and remainder by twenty -/

/-- A word's sign as the kernel computes it: one if positive, less one if negative. -/
def signW (x : BitVec 32) : BitVec 32 :=
  IntOp.subi ((IntOp.cmpi .sgt x 0#32).setWidth 32) ((IntOp.cmpi .slt x 0#32).setWidth 32)

/-- Floor division by twenty as printed: the quotient toward zero, less one where the signs differ and there is a remainder. -/
def fdivW (u : ArithUnit) (x : BitVec 32) : BitVec 32 :=
  Scalar.select (IntOp.andi (IntOp.cmpi .ne (signW x) (signW 20#32)) (IntOp.cmpi .ne (IntOp.remsi u x 20#32) 0#32))
    (IntOp.subi (IntOp.divsi u x 20#32) 1#32) (IntOp.divsi u x 20#32)

/-- The divisor as printed, guarded against zero. -/
def twentyW : BitVec 32 := Scalar.select (IntOp.cmpi .eq 20#32 0#32) 1#32 20#32

/-- The remainder by twenty as printed: the remainder toward zero, plus twenty where its sign differs from the divisor's. -/
def fmodW (u : ArithUnit) (x : BitVec 32) : BitVec 32 :=
  Scalar.select (IntOp.andi (IntOp.xori (IntOp.cmpi .slt (IntOp.remsi u x twentyW) 0#32) (IntOp.cmpi .slt twentyW 0#32))
      (IntOp.cmpi .ne (IntOp.remsi u x twentyW) 0#32))
    (IntOp.addi (IntOp.remsi u x twentyW) twentyW) (IntOp.remsi u x twentyW)

theorem twentyW_eq : twentyW = 20#32 := by decide

theorem slt_zero {n : ℕ} (hn : n < 2 ^ 31) : IntOp.cmpi .slt (BitVec.ofNat 32 n) 0#32 = 0#1 := by
  show BitVec.ofBool ((BitVec.ofNat 32 n).slt (BitVec.ofNat 32 0)) = 0#1
  rw [slt_ofNat32 hn (by norm_num)]; simp

theorem sgt_zero {n : ℕ} (hn : n < 2 ^ 31) (h0 : 0 < n) : IntOp.cmpi .sgt (BitVec.ofNat 32 n) 0#32 = 1#1 := by
  show BitVec.ofBool ((BitVec.ofNat 32 0).slt (BitVec.ofNat 32 n)) = 1#1
  rw [slt_ofNat32 (by norm_num) hn]; simp [h0]

theorem fdivW_ofNat (u : ArithUnit) {n : ℕ} (hn : n < 2 ^ 31) : fdivW u (BitVec.ofNat 32 n) = BitVec.ofNat 32 (n / 20) := by
  unfold fdivW
  have hd : IntOp.divsi u (BitVec.ofNat 32 n) 20#32 = BitVec.ofNat 32 (n / 20) := divsi_word u hn (by norm_num) (by norm_num)
  have hr : IntOp.remsi u (BitVec.ofNat 32 n) 20#32 = BitVec.ofNat 32 (n % 20) := remsi_word u hn (by norm_num) (by norm_num)
  rw [hd, hr]
  rcases Nat.eq_zero_or_pos n with h0 | h0
  · subst h0; decide
  · have hs : signW (BitVec.ofNat 32 n) = 1#32 := by unfold signW; rw [sgt_zero hn h0, slt_zero hn]; decide
    rw [hs, show IntOp.cmpi .ne (1#32) (signW 20#32) = 0#1 by decide]
    have : ∀ y : BitVec 1, IntOp.andi 0#1 y = 0#1 := by decide
    rw [this]; rfl

theorem fmodW_ofNat (u : ArithUnit) {n : ℕ} (hn : n < 2 ^ 31) : fmodW u (BitVec.ofNat 32 n) = BitVec.ofNat 32 (n % 20) := by
  unfold fmodW; rw [twentyW_eq]
  have hr : IntOp.remsi u (BitVec.ofNat 32 n) 20#32 = BitVec.ofNat 32 (n % 20) := remsi_word u hn (by norm_num) (by norm_num)
  rw [hr, slt_zero (lt_of_le_of_lt (Nat.mod_le _ _) hn), show IntOp.xori (0#1) (IntOp.cmpi .slt (20#32) 0#32) = 0#1 by decide]
  have : ∀ y : BitVec 1, IntOp.andi 0#1 y = 0#1 := by decide
  rw [this]; rfl

/-! ## The payloads of one trip -/

/-- The lane numbers. -/
abbrev lanes : IVec S16 32 := iota .scVector S16 32 [0] iota_S16_d0_w32_scVector

theorem lanes_at (x : S16.Idx) : lanes x = BitVec.ofNat 32 (x 0).val := by
  show BitVec.ofNat 32 (0 * S16.size 0 + (x 0).val) = _
  rw [Nat.zero_mul, Nat.zero_add]

theorem lane_lt (x : S16.Idx) : (x 0).val < 16 := (x 0).isLt

theorem iv_zero_one (k : ℕ) : Scf.iv 0#32 1#32 k = BitVec.ofNat 32 k := by
  unfold Scf.iv; rw [BitVec.mul_one, BitVec.zero_add]

section Trip

variable (i : grid0.Coords) (k : Fin (k0_t1_loop i).trips)

theorem trips_le : (k0_t1_loop i).trips ≤ 100 := (k0_t1_abs i).2.1
theorem trip_lt : k.val < 100 := lt_of_lt_of_le k.isLt (trips_le i)

/-- The trip count: a hundred pairs of sixteen, but twenty-five on the last tile, which has forty rows of the table. -/
theorem trips_eq : ∀ i : grid0.Coords, (k0_t1_loop i).trips = if 2 * (i 1).val + (i 0).val = 31 then 25 else 100 := by decide +kernel

/-- The pair number of lane `x` in the first half of trip `k`, -/
abbrev fA (k : ℕ) (x : S16.Idx) : ℕ := 32 * k + (x 0).val
/-- and in the second. -/
abbrev fB (k : ℕ) (x : S16.Idx) : ℕ := 32 * k + 16 + (x 0).val

theorem pay3_at (x : S16.Idx) : k0_pay3 i lanes 0#32 1#32 k x = BitVec.ofNat 32 (fA k.val x) := by
  show IntOp.addi (Scalar.muli 16#32 (Scalar.muli 2#32 (Scf.iv 0#32 1#32 k.val))) (lanes x) = _
  rw [lanes_at, iv_zero_one]
  show 16#32 * (2#32 * BitVec.ofNat 32 k.val) + BitVec.ofNat 32 (x 0).val = _
  have := trip_lt i k; have := lane_lt x
  apply BitVec.eq_of_toNat_eq
  simp only [BitVec.toNat_add, BitVec.toNat_mul, BitVec.toNat_ofNat, fA]
  omega

theorem fA_lt (x : S16.Idx) : fA k.val x < 3200 := by have := trip_lt i k; have := lane_lt x; unfold fA; omega
theorem fB_lt (x : S16.Idx) : fB k.val x < 3200 := by have := trip_lt i k; have := lane_lt x; unfold fB; omega

theorem rowA_at (x : S16.Idx) : k0_pay4 i lanes 0#32 1#32 k x = BitVec.ofNat 32 (fA k.val x / 20) := by
  show fdivW .vector (k0_pay3 i lanes 0#32 1#32 k x) = _
  rw [pay3_at, fdivW_ofNat _ (by have := fA_lt i k x; omega)]

/-- The partner's word of the first half, as the kernel selects it. -/
abbrev colA : IVec S16 32 := select (k0_pay6 i lanes 0#32 1#32 k) (k0_pay7 i lanes 0#32 1#32 k) (k0_pay5 i lanes 0#32 1#32 k)

theorem colA_at (x : S16.Idx) : colA i k x = BitVec.ofNat 32 (fA k.val x % 20) := by
  show fmodW .vector (k0_pay3 i lanes 0#32 1#32 k x) = _
  rw [pay3_at, fmodW_ofNat _ (by have := fA_lt i k x; omega)]

/-- The tile's first row, as a word. -/
abbrev baseW : BitVec 32 := Scalar.muli 160#32 (Scalar.addi (Scalar.muli (BitVec.ofNat 32 (i 1).val) 2#32) (BitVec.ofNat 32 (i 0).val))

/-- The tile's number. -/
abbrev tileNo : ℕ := 2 * (i 1).val + (i 0).val

theorem tileNo_lt : tileNo i < 32 := by
  have h0 : (i 0).val < 2 := (i 0).isLt
  have h1 : (i 1).val < 16 := (i 1).isLt
  unfold tileNo; omega

theorem baseW_eq : baseW i = BitVec.ofNat 32 (160 * tileNo i) := by
  have h0 : (i 0).val < 2 := (i 0).isLt
  have h1 : (i 1).val < 16 := (i 1).isLt
  show 160#32 * (BitVec.ofNat 32 (i 1).val * 2#32 + BitVec.ofNat 32 (i 0).val) = _
  apply BitVec.eq_of_toNat_eq
  simp only [BitVec.toNat_add, BitVec.toNat_mul, BitVec.toNat_ofNat, tileNo]
  omega

theorem fdivW_base (u : ArithUnit) : fdivW u (baseW i) = BitVec.ofNat 32 (8 * tileNo i) := by
  have := tileNo_lt i
  rw [baseW_eq, fdivW_ofNat _ (by omega)]; congr 1; omega

/-- The block number a lane's row is in. -/
theorem blkA_at (v : IVec S16 32) (x : S16.Idx) {n : ℕ} (hn : n < 160) (hv : v x = BitVec.ofNat 32 n) :
    k0_pay8 (baseW i) v x = BitVec.ofNat 32 (8 * tileNo i + n / 20) := by
  show IntOp.addi (fdivW .scalar (baseW i)) (fdivW .vector (v x)) = _
  rw [fdivW_base, hv, fdivW_ofNat _ (by omega)]
  have := tileNo_lt i
  show _ + _ = _
  apply BitVec.eq_of_toNat_eq
  simp only [BitVec.toNat_add, BitVec.toNat_ofNat]
  omega

/-- The partner row of a lane: the block's first row and the partner's number. -/
theorem partner_word {n j : ℕ} (hn : n < 160) (hj : j < 20) :
    IntOp.addi (IntOp.muli (fdivW .vector (BitVec.ofNat 32 n)) 20#32) (BitVec.ofNat 32 j) = BitVec.ofNat 32 (n / 20 * 20 + j) := by
  rw [fdivW_ofNat _ (by omega)]
  show _ * _ + _ = _
  apply BitVec.eq_of_toNat_eq
  simp only [BitVec.toNat_add, BitVec.toNat_mul, BitVec.toNat_ofNat]
  omega

theorem biA_at (v c : IVec S16 32) (x : S16.Idx) {n j : ℕ} (hn : n < 160) (hj : j < 20) (hv : v x = BitVec.ofNat 32 n) (hc : c x = BitVec.ofNat 32 j) :
    k0_pay9 v c 20#32 x = BitVec.ofNat 32 (n / 20 * 20 + j) := by
  show IntOp.addi (IntOp.muli (fdivW .vector (v x)) 20#32) (c x) = _
  rw [hv, hc, partner_word hn hj]

/-! ### The second half -/

theorem pay13_at (x : S16.Idx) : k0_pay13 lanes (Scf.iv 0#32 1#32 k.val) x = BitVec.ofNat 32 (fB k.val x) := by
  show IntOp.addi (Scalar.muli 16#32 (Scalar.addi (Scalar.muli 2#32 (Scf.iv 0#32 1#32 k.val)) 1#32)) (lanes x) = _
  rw [lanes_at, iv_zero_one]
  show 16#32 * (2#32 * BitVec.ofNat 32 k.val + 1#32) + BitVec.ofNat 32 (x 0).val = _
  have := trip_lt i k; have := lane_lt x
  apply BitVec.eq_of_toNat_eq
  simp only [BitVec.toNat_add, BitVec.toNat_mul, BitVec.toNat_ofNat, fB]
  omega

/-- The row's word of the second half, as the kernel selects it. -/
abbrev rowB : IVec S16 32 :=
  k0_pay16 (k0_pay14 lanes (Scf.iv 0#32 1#32 k.val)) (k0_pay15 lanes (Scf.iv 0#32 1#32 k.val)) 1#32

theorem rowB_at (x : S16.Idx) : rowB i k x = BitVec.ofNat 32 (fB k.val x / 20) := by
  show fdivW .vector (k0_pay13 lanes (Scf.iv 0#32 1#32 k.val) x) = _
  rw [pay13_at i k, fdivW_ofNat _ (by have := fB_lt i k x; omega)]

/-- The partner's word of the second half. -/
abbrev colB : IVec S16 32 := k0_pay17 (k0_pay13 lanes (Scf.iv 0#32 1#32 k.val))

theorem colB_at (x : S16.Idx) : colB i k x = BitVec.ofNat 32 (fB k.val x % 20) := by
  show fmodW .vector (k0_pay13 lanes (Scf.iv 0#32 1#32 k.val) x) = _
  rw [pay13_at i k, fmodW_ofNat _ (by have := fB_lt i k x; omega)]

/-- The block number of the second half, from the tile's first block. -/
theorem blkB_at (v : IVec S16 32) (x : S16.Idx) {n : ℕ} (hn : n < 160) (hv : v x = BitVec.ofNat 32 n) :
    k0_pay21 v (fdivW .scalar (baseW i)) 20#32 (k0_pay18 v) (k0_pay19 v) k0_pay20 x = BitVec.ofNat 32 (8 * tileNo i + n / 20) := by
  show IntOp.addi (fdivW .scalar (baseW i)) (fdivW .vector (v x)) = _
  rw [fdivW_base, hv, fdivW_ofNat _ (by omega)]
  have := tileNo_lt i
  show _ + _ = _
  apply BitVec.eq_of_toNat_eq
  simp only [BitVec.toNat_add, BitVec.toNat_ofNat]
  omega

theorem biB_at (v c : IVec S16 32) (x : S16.Idx) {n j : ℕ} (hn : n < 160) (hj : j < 20) (hv : v x = BitVec.ofNat 32 n) (hc : c x = BitVec.ofNat 32 j) :
    k0_pay22 v c x = BitVec.ofNat 32 (n / 20 * 20 + j) := by
  show IntOp.addi (IntOp.muli (fdivW .vector (v x)) 20#32) (c x) = _
  rw [hv, hc, partner_word hn hj]

end Trip

/-! ## The checks -/

/-- The four coordinates' columns, as the kernel writes them. -/
abbrev colVec (q : Fin 4) : IVec S16 32 := (![k0_pay43, k0_pay44, k0_pay45, k0_pay46] : Fin 4 → IVec S16 32) q

theorem colVec_at (q : Fin 4) (x : S16.Idx) : (colVec q x).toNat = q.val := by
  match q with
  | 0 => exact (by decide : (0#32).toNat = 0)
  | 1 => exact (by decide : (1#32).toNat = 1)
  | 2 => exact (by decide : (2#32).toNat = 2)
  | 3 => exact (by decide : (3#32).toNat = 3)

/-- A row vector's rows are in a tile's table, at each of the four columns. -/
def InCols (v : IVec S16 32) : Prop :=
  (∀ a x, ((![v, k0_pay43] : Fin 2 → IVec S16 32) a x).toNat < S160x4.size a)
    ∧ (∀ a x, ((![v, k0_pay44] : Fin 2 → IVec S16 32) a x).toNat < S160x4.size a)
    ∧ (∀ a x, ((![v, k0_pay45] : Fin 2 → IVec S16 32) a x).toNat < S160x4.size a)
    ∧ (∀ a x, ((![v, k0_pay46] : Fin 2 → IVec S16 32) a x).toNat < S160x4.size a)

theorem InCols.at {v : IVec S16 32} (h : InCols v) (q : Fin 4) :
    ∀ a x, ((![v, colVec q] : Fin 2 → IVec S16 32) a x).toNat < S160x4.size a :=
  match q with
  | 0 => h.1
  | 1 => h.2.1
  | 2 => h.2.2.1
  | 3 => h.2.2.2

theorem inCols_of (v : IVec S16 32) (hv : ∀ x, (v x).toNat < 160) : InCols v := by
  refine ⟨?_, ?_, ?_, ?_⟩ <;> intro a x
  · match a with
    | 0 => exact hv x
    | 1 => exact (by decide : (0#32).toNat < 4)
  · match a with
    | 0 => exact hv x
    | 1 => exact (by decide : (1#32).toNat < 4)
  · match a with
    | 0 => exact hv x
    | 1 => exact (by decide : (2#32).toNat < 4)
  · match a with
    | 0 => exact hv x
    | 1 => exact (by decide : (3#32).toNat < 4)

/-- A row vector and a partner vector within the tile's band. -/
theorem inBand_of (v c : IVec S16 32) (hv : ∀ x, (v x).toNat < 160) (hc : ∀ x, (c x).toNat < 20) :
    ∀ a x, ((![v, c] : Fin 2 → IVec S16 32) a x).toNat < S160x20.size a := by
  intro a x; match a with
    | 0 => exact hv x
    | 1 => exact hc x

end Cert.Proof.Band

end
-- ==== Proof.Elem.lean ====
/-
  What one tile computes. A box is four numbers; `iou` is the ratio the kernel forms of two of them, operation by
  operation, over any float values. A tile holds 160 rows of two tables, and the entry at its row `r` and partner `j` is
  the ratio of row `r` of the first with the `j`-th row of `r`'s block of twenty in the second, or zero in block 248.
  A trip writes sixteen consecutive entries twice; `Done n` says that the first `n` are in place, and a store of the
  next sixteen takes it to `n + 16`.
-/
module

public import proofs.«01_k».proof.Proof.Words
public import Idealize.ShloMosaic.Lib.ValueIdxCore

@[expose] public section

noncomputable section

namespace Cert.Proof.Band

open Cert.KernelIdeal Cert.KernelIdeal.Gen
open Idealize.ShloMosaic Idealize.ShloMosaic.Routing Idealize.ShloMosaic.ValueIdx

variable {F : FTy → Type} [FloatOps F]

/-! ## The ratio of two boxes -/

/-- The float zero and one as the kernel writes them. -/
abbrev zeroF : F .f32 := Scalar.ofBits .f32 0x00000000#32
abbrev oneF : F .f32 := Scalar.ofBits .f32 0x3F800000#32

/-- The area two boxes share. -/
def inter (a b : Fin 4 → F .f32) : F .f32 :=
  FloatOps.mulf (FloatOps.maximumf (FloatOps.subf (FloatOps.minimumf (a 2) (b 2)) (FloatOps.maximumf (a 0) (b 0))) zeroF)
    (FloatOps.maximumf (FloatOps.subf (FloatOps.minimumf (a 3) (b 3)) (FloatOps.maximumf (a 1) (b 1))) zeroF)

/-- The first box's area. -/
def areaA (a : Fin 4 → F .f32) : F .f32 :=
  FloatOps.mulf (FloatOps.addf (FloatOps.subf (a 2) (a 0)) oneF) (FloatOps.addf (FloatOps.subf (a 3) (a 1)) oneF)

/-- The second box's area, its height measured from its right edge as the reference does. -/
def areaB (b : Fin 4 → F .f32) : F .f32 :=
  FloatOps.mulf (FloatOps.addf (FloatOps.subf (b 2) (b 0)) oneF) (FloatOps.addf (FloatOps.subf (b 2) (b 1)) oneF)

/-- The shared area over the rest of both. -/
def iou (a b : Fin 4 → F .f32) : F .f32 :=
  FloatOps.divf (inter a b) (FloatOps.subf (FloatOps.addf (areaA a) (areaB b)) (inter a b))

/-- The row of a table as a box. -/
abbrev box {n : ℕ} (A : (⟨2, ![n, 4]⟩ : Shape).Idx → F .f32) (r : Fin n) : Fin 4 → F .f32 := fun c => A (ix2 r c)

/-- The ratio the first half's three payloads form, at a lane. -/
theorem pay12_at (blk : IVec S16 32) (a0 a1 a2 a3 b0 b1 b2 b3 : Vec F S16 .f32) (x : S16.Idx) :
    k0_pay12 blk a1 a3 b0 b1 b2 (k0_pay10 a0 a1 a2 a3 b0 b1 b2 b3) (k0_pay11 a0 a2) x
      = Scalar.select (IntOp.cmpi .ne (blk x) 248#32) (iou ![a0 x, a1 x, a2 x, a3 x] ![b0 x, b1 x, b2 x, b3 x]) zeroF := rfl

/-- The same of the second half's payload. -/
theorem pay1_at (blk : IVec S16 32) (a0 a1 a2 a3 b0 b1 b2 b3 : Vec F S16 .f32) (x : S16.Idx) :
    k0_pay1 blk a0 a1 a2 a3 b0 b1 b2 b3 x
      = Scalar.select (IntOp.cmpi .ne (blk x) 248#32) (iou ![a0 x, a1 x, a2 x, a3 x] ![b0 x, b1 x, b2 x, b3 x]) zeroF := rfl

theorem select_blk {n : ℕ} (hn : n < 2 ^ 31) (y z : F .f32) :
    Scalar.select (IntOp.cmpi .ne (BitVec.ofNat 32 n) 248#32) y z = if n ≠ 248 then y else z := by
  by_cases h : n = 248
  · subst h; rfl
  · have hne : BitVec.ofNat 32 n ≠ 248#32 := by
      intro e; apply h
      have := congrArg BitVec.toNat e
      simp only [BitVec.toNat_ofNat] at this; omega
    have : IntOp.cmpi .ne (BitVec.ofNat 32 n) 248#32 = 1#1 := by
      show BitVec.ofBool (BitVec.ofNat 32 n != 248#32) = 1#1
      simp [bne_iff_ne.mpr hne]
    rw [this, if_pos h]; rfl

/-! ## A tile's entries -/

/-- The row of the second table that a tile's row meets at its `j`-th partner. -/
def mate (r : Fin 160) (j : Fin 20) : Fin 160 := ⟨r.val / 20 * 20 + j.val, by omega⟩

/-- A tile's entry at row `r` and partner `j`. -/
def entry (w : ℕ) (A B : S160x4.Idx → F .f32) (r : Fin 160) (j : Fin 20) : F .f32 :=
  if 8 * w + r.val / 20 ≠ 248 then iou (box A r) (box B (mate r j)) else zeroF

/-- A tile's entry at an index. -/
def entryAt (w : ℕ) (A B : S160x4.Idx → F .f32) (x : S160x20.Idx) : F .f32 := entry w A B (x 0) (x 1)

/-- The first `n` of a tile's entries, read row by row, are in place. -/
def Done (w : ℕ) (A B : S160x4.Idx → F .f32) (n : ℕ) (f : S160x20.Idx → F .f32) : Prop :=
  ∀ x : S160x20.Idx, (x 0).val * 20 + (x 1).val < n → f x = entryAt w A B x

theorem done_zero (w : ℕ) (A B : S160x4.Idx → F .f32) (f : S160x20.Idx → F .f32) : Done w A B 0 f :=
  fun _ h => absurd h (Nat.not_lt_zero _)

/-! ## A store through index vectors, of values that depend on the place alone -/

/-- A store at the places the index vectors name leaves `val` at each and the rest as it was, if what a lane stores is
    `val` at its place: lanes that name the same place store the same, so their order does not matter. -/
theorem storeIdx_of_val {s : Shape} {d : Fin 1 → ℕ} (f : Vec F s .f32) (idxs : Fin s.rank → IVec ⟨1, d⟩ 32) (v : Vec F ⟨1, d⟩ .f32)
    (h : ∀ a x, (idxs a x).toNat < s.size a) (val : s.Idx → F .f32) (hv : ∀ x, v x = val (idxAt idxs h x)) (j : s.Idx) :
    ((∃ x, idxAt idxs h x = j) → storeIdx f idxs v (fun _ => 1#1) false h j = val j)
      ∧ ((¬ ∃ x, idxAt idxs h x = j) → storeIdx f idxs v (fun _ => 1#1) false h j = f j) := by
  classical
  have key : ∀ (step : Vec F s .f32 → Fin (d 0) → Vec F s .f32)
      (_ : ∀ g k, step g k j = if idxAt idxs h (Shape.ofLane k) = j then val j else g j) (L : List (Fin (d 0))) (g : Vec F s .f32),
      List.foldl step g L j = if ∃ k ∈ L, idxAt idxs h (Shape.ofLane k) = j then val j else g j := by
    intro step hstep L
    induction L with
    | nil => intro g; simp
    | cons k L ih =>
      intro g
      rw [List.foldl_cons, ih]
      by_cases hL : ∃ k' ∈ L, idxAt idxs h (Shape.ofLane k') = j
      · rw [if_pos hL, if_pos]
        obtain ⟨k', hk', e⟩ := hL
        exact ⟨k', List.mem_cons_of_mem _ hk', e⟩
      · rw [if_neg hL, hstep]
        by_cases hk : idxAt idxs h (Shape.ofLane k) = j
        · rw [if_pos hk, if_pos ⟨k, List.mem_cons_self, hk⟩]
        · rw [if_neg hk, if_neg]
          rintro ⟨k', hk', e⟩
          rcases List.mem_cons.mp hk' with rfl | hk'
          · exact hk e
          · exact hL ⟨k', hk', e⟩
  have hst : storeIdx f idxs v (fun _ => 1#1) false h j
      = if ∃ k ∈ List.finRange (d 0), idxAt idxs h (Shape.ofLane k) = j then val j else f j := by
    unfold storeIdx
    refine key _ (fun g k => ?_) _ f
    simp only [if_true, Bool.false_eq_true, if_false]
    rw [if_pos (by decide : (1#1 : BitVec 1) = 1)]
    by_cases hk : idxAt idxs h (Shape.ofLane k) = j
    · rw [if_pos (fun a => by rw [hk]), if_pos hk, hv, hk]
    · rw [if_neg (fun e => hk (funext fun a => Fin.ext (e a).symm)), if_neg hk]
  have hex : (∃ k ∈ List.finRange (d 0), idxAt idxs h (Shape.ofLane k) = j) ↔ ∃ x, idxAt idxs h x = j := by
    constructor
    · rintro ⟨k, -, e⟩; exact ⟨_, e⟩
    · rintro ⟨x, e⟩
      refine ⟨x 0, List.mem_finRange _, ?_⟩
      have : (Shape.ofLane (x 0) : (⟨1, d⟩ : Shape).Idx) = x := by
        funext a; have : a = 0 := Fin.eq_zero a; subst this; rfl
      rw [this]; exact e
  constructor
  · intro hx; rw [hst, if_pos (hex.mpr hx)]
  · intro hx; rw [hst, if_neg (fun h => hx (hex.mp h))]

/-- One half of a trip: the entries from `n` on, sixteen of them, stored by the words of their row and partner. -/
theorem done_step {w n : ℕ} {A B : S160x4.Idx → F .f32} {f : S160x20.Idx → F .f32} (hf : Done w A B n f)
    (row col : IVec S16 32) (hrow : ∀ x, row x = BitVec.ofNat 32 ((n + (x 0).val) / 20)) (hcol : ∀ x, col x = BitVec.ofNat 32 ((n + (x 0).val) % 20))
    (hn : n + 16 ≤ 3200) (h : ∀ a x, ((![row, col] : Fin 2 → IVec S16 32) a x).toNat < S160x20.size a) (v : Vec F S16 .f32)
    (hv : ∀ x, v x = entryAt w A B (idxAt (s := S160x20) ![row, col] h x)) :
    Done w A B (n + 16) (storeIdx f ![row, col] v (fun _ => 1#1) false h) := by
  have at0 : ∀ x, (idxAt (s := S160x20) ![row, col] h x 0).val = (n + (x 0).val) / 20 := by
    intro x
    show (row x).toNat = _
    have := lane_lt x
    rw [hrow, BitVec.toNat_ofNat]; omega
  have at1 : ∀ x, (idxAt (s := S160x20) ![row, col] h x 1).val = (n + (x 0).val) % 20 := by
    intro x
    show (col x).toNat = _
    have := lane_lt x
    rw [hcol, BitVec.toNat_ofNat]; omega
  intro j hj
  obtain ⟨hhit, hmiss⟩ := storeIdx_of_val (s := S160x20) f ![row, col] v h (entryAt w A B) hv j
  by_cases hx : ∃ x, idxAt (s := S160x20) ![row, col] h x = j
  · exact hhit hx
  · rw [hmiss hx]
    refine hf j ?_
    by_contra hlt
    apply hx
    have hj1 : (j 1).val < 20 := (j 1).isLt
    refine ⟨fun a => ⟨(j 0).val * 20 + (j 1).val - n, by rw [Fin.eq_zero a]; show _ < 16; omega⟩, ?_⟩
    funext a
    match a with
    | 0 => exact Fin.ext ((at0 _).trans (by show (n + ((j 0).val * 20 + (j 1).val - n)) / 20 = _; omega))
    | 1 => exact Fin.ext ((at1 _).trans (by show (n + ((j 0).val * 20 + (j 1).val - n)) % 20 = _; omega))

/-- What a lane stores is the entry at its place: its boxes are gathered by the words of its row and its partner's row,
    and its block number is its row's. -/
theorem lane_entry {w r j : ℕ} (hw : w < 32) (hr : r < 160) (hj : j < 20) (A B : S160x4.Idx → F .f32) (row bi blk : IVec S16 32) (x : S16.Idx)
    (hrow : row x = BitVec.ofNat 32 r) (hbi : bi x = BitVec.ofNat 32 (r / 20 * 20 + j)) (hblk : blk x = BitVec.ofNat 32 (8 * w + r / 20))
    (c : Fin 4 → IVec S16 32) (hc : ∀ q, (c q x).toNat = q.val)
    (hA : ∀ q, ∀ a x, ((![row, c q] : Fin 2 → IVec S16 32) a x).toNat < S160x4.size a)
    (hB : ∀ q, ∀ a x, ((![bi, c q] : Fin 2 → IVec S16 32) a x).toNat < S160x4.size a) :
    Scalar.select (IntOp.cmpi .ne (blk x) 248#32)
        (iou ![loadIdx (F := F) (e := .f32) A ![row, c 0] (hA 0) x, loadIdx (F := F) (e := .f32) A ![row, c 1] (hA 1) x,
            loadIdx (F := F) (e := .f32) A ![row, c 2] (hA 2) x, loadIdx (F := F) (e := .f32) A ![row, c 3] (hA 3) x]
          ![loadIdx (F := F) (e := .f32) B ![bi, c 0] (hB 0) x, loadIdx (F := F) (e := .f32) B ![bi, c 1] (hB 1) x,
            loadIdx (F := F) (e := .f32) B ![bi, c 2] (hB 2) x, loadIdx (F := F) (e := .f32) B ![bi, c 3] (hB 3) x]) zeroF
      = entry w A B ⟨r, hr⟩ ⟨j, hj⟩ := by
  have eA : ∀ q : Fin 4, loadIdx (F := F) (e := .f32) A ![row, c q] (hA q) x = A (ix2 ⟨r, hr⟩ q) := by
    intro q
    show A _ = A _
    congr 1
    funext a
    match a with
    | 0 => exact Fin.ext (by show (row x).toNat = r; rw [hrow, BitVec.toNat_ofNat]; omega)
    | 1 => exact Fin.ext (hc q)
  have eB : ∀ q : Fin 4, loadIdx (F := F) (e := .f32) B ![bi, c q] (hB q) x = B (ix2 (mate ⟨r, hr⟩ ⟨j, hj⟩) q) := by
    intro q
    show B _ = B _
    congr 1
    funext a
    match a with
    | 0 => exact Fin.ext (by show (bi x).toNat = r / 20 * 20 + j; rw [hbi, BitVec.toNat_ofNat]; omega)
    | 1 => exact Fin.ext (hc q)
  rw [hblk, select_blk (by omega), eA, eA, eA, eA, eB, eB, eB, eB]
  unfold entry
  congr 2
  · funext q; match q with | 0 | 1 | 2 | 3 => rfl
  · funext q; match q with | 0 | 1 | 2 | 3 => rfl

end Cert.Proof.Band

end
-- ==== Proof.Setup.lean ====
/-
  The program as the launch theorem sees it, and what the SparseCores' one call carries. The TensorCore hands the 32
  tiles their 160 rows of the two tables and of the band; each brings its rows of the tables back as they were and its
  rows of the band at the entries `Elem.lean` states (`TileOK`).
-/
module

public import proofs.«01_k».proof.Proof.Elem
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal.Launch
public import proofs.«01_k».proof.Proof.Gen.KernelIdeal.Points

@[expose] public section

noncomputable section

namespace Cert.Proof.Band

open Cert.KernelIdeal Cert.KernelIdeal.Gen
open Idealize.ShloMosaic Idealize.ShloMosaic.Routing Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub_zero : (K (F := F)).nSub 0 = 16 := rfl
theorem nCore_zero : (K (F := F)).nCore 0 = 2 := rfl

/-! ## The resource algebra: the handshakes' rounds, the TensorCore pipeline's, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_v4
abbrev bLoc (d : Dev nD) : Loc nD τ sig := (SparseCore.T d).loc main_v5
abbrev oLoc (d : Dev nD) : Loc nD τ sig := (SparseCore.T d).loc main_v6

/-- The whole of the tables and of the band, as a tile names them. -/
abbrev aV : Memref sig .scVector .hbm S5120x4 .f32 := Memref.whole main_v4_scv
abbrev bV : Memref sig .scVector .hbm S5120x4 .f32 := Memref.whole main_v5_scv
abbrev oV : Memref sig .scVector .hbm S5120x20 .f32 := Memref.whole main_v6_scv
/-- A tile's own copies. -/
abbrev sA : Memref sig .scVector .vmem S160x4 .f32 := Memref.whole cc0_scratch0
abbrev sB : Memref sig .scVector .vmem S160x4 .f32 := Memref.whole cc0_scratch1
abbrev sO : Memref sig .scVector .vmem S160x20 .f32 := Memref.whole cc0_scratch2

theorem adiv : 32 ∣ S5120x4.size 0 := ⟨160, rfl⟩
theorem odiv : 32 ∣ S5120x20.size 0 := ⟨160, rfl⟩
/-- The 160 rows of tile `w`, of a table and of the band. -/
abbrev arow (w : Fin 32) : Rect S5120x4 := Rect.part (s := S5120x4) (a₀ := 0) adiv w
abbrev orow (w : Fin 32) : Rect S5120x20 := Rect.part (s := S5120x20) (a₀ := 0) odiv w
abbrev aRowSet (w : Fin 32) : Finset S5120x4.Idx := (aV.view.slice (arow w)).set
abbrev oRowSet (w : Fin 32) : Finset S5120x20.Idx := (oV.view.slice (orow w)).set

/-- The number of the tile that SparseCore `c`'s subcore `i` runs. -/
def tileIx (c : Fin 2) (i : Fin 16) : Fin 32 := ⟨2 * i.val + c.val, by omega⟩

/-! ## What a tile leaves -/

/-- The row of an array of 5120 rows that is tile `w`'s row `r`. -/
def gRow (w : Fin 32) (r : Fin 160) : Fin 5120 := ⟨160 * w.val + r.val, by omega⟩

/-- Tile `w`'s rows of a table. -/
def slab (w : Fin 32) (A : S5120x4.Idx → F .f32) : S160x4.Idx → F .f32 := fun x => A (ix2 (gRow w (x 0)) (x 1))

/-- The band's rows of tile `w` hold its entries, as far as the table's 5000 rows go. -/
def TileOK (A B : S5120x4.Idx → F .f32) (w : Fin 32) (f : S5120x20.Idx → F .f32) : Prop :=
  ∀ (r : Fin 160) (j : Fin 20), (gRow w r).val < 5000 → f (ix2 (gRow w r) j) = entry w.val (slab w A) (slab w B) r j

/-! ## What the handshakes carry -/

section Carried

variable (tA tB : Dev nD → S5120x4.Idx → F .f32) (m : (ℓ : Loc nD τ sig) → Buf (Elt F) ℓ)

abbrev aRowPts (d : Dev nD) (w : Fin 32) : sProp 𝕄 := aLoc d ↦[aRowSet w]{fullShare} (tA d : Buf (Elt F) (aLoc d))
abbrev bRowPts (d : Dev nD) (w : Fin 32) : sProp 𝕄 := bLoc d ↦[aRowSet w]{fullShare} (tB d : Buf (Elt F) (bLoc d))
abbrev oRowPts (d : Dev nD) (w : Fin 32) (f : Buf (Elt F) (oLoc d)) : sProp 𝕄 := oLoc d ↦[oRowSet w]{fullShare} f

/-- What tile `w` is handed, -/
def goes (d : Dev nD) (w : Fin 32) : sProp 𝕄 := iprop(aRowPts tA d w ∗ bRowPts tB d w ∗ oRowPts d w (m (oLoc d)))
/-- and what it brings back. -/
def comes (d : Dev nD) (w : Fin 32) : sProp 𝕄 :=
  iprop(aRowPts tA d w ∗ bRowPts tB d w ∗ ∃ f : Buf (Elt F) (oLoc d), ⌜TileOK (tA d) (tB d) w f⌝ ∗ oRowPts d w f)

instance (d : Dev nD) (w : Fin 32) : BI.Storable (upEmb : UEmb _ 𝕄) (goes tA tB m d w) := by unfold goes; infer_instance
instance (d : Dev nD) (w : Fin 32) : BI.Storable (upEmb : UEmb _ 𝕄) (comes tA tB d w) := by unfold comes; infer_instance

/-- Each SparseCore takes its sixteen tiles' rows, deals them, and brings them back. -/
def P : (K (F := F)).Pay (nD := nD) (Val := Elt F) (Name := ℕ) (U := UU) where
  st := fun q d c => match q with | 0 => bigSep Finset.univ fun i : Fin 16 => goes tA tB m d (tileIx (Fin.cast nCore_zero c) i)
  dn := fun q d c => match q with | 0 => bigSep Finset.univ fun i : Fin 16 => comes tA tB d (tileIx (Fin.cast nCore_zero c) i)
  go := fun q d c i => match q with | 0 => goes tA tB m d (tileIx (Fin.cast nCore_zero c) (Fin.cast nSub_zero i))
  td := fun q d c i => match q with | 0 => comes tA tB d (tileIx (Fin.cast nCore_zero c) (Fin.cast nSub_zero i))
  x := fun _ _ => iprop(emp)

instance P_storable : (P (F := F) tA tB m).IsStorable where
  st q d c := match q with
    | 0 => (inferInstance : BI.Storable (upEmb : UEmb _ 𝕄) (bigSep Finset.univ fun i : Fin 16 => goes tA tB m d (tileIx (Fin.cast nCore_zero c) i)))
  dn q d c := match q with
    | 0 => (inferInstance : BI.Storable (upEmb : UEmb _ 𝕄) (bigSep Finset.univ fun i : Fin 16 => comes tA tB d (tileIx (Fin.cast nCore_zero c) i)))
  go q d c i := match q with
    | 0 => (inferInstance : BI.Storable (upEmb : UEmb _ 𝕄) (goes tA tB m d (tileIx (Fin.cast nCore_zero c) (Fin.cast nSub_zero i))))
  td q d c i := match q with
    | 0 => (inferInstance : BI.Storable (upEmb : UEmb _ 𝕄) (comes tA tB d (tileIx (Fin.cast nCore_zero c) (Fin.cast nSub_zero i))))

theorem vecSplit : (K (F := F)).VecSplit' (P tA tB m) 0 := by
  intro d c
  show iprop(bigSep Finset.univ fun i : Fin 16 => goes tA tB m d (tileIx (Fin.cast nCore_zero c) i)) ⊢ |={Set.univ}=> iprop(
      (bigSep Finset.univ fun i : Fin ((K (F := F)).nSub 0) => goes tA tB m d (tileIx (Fin.cast nCore_zero c) (Fin.cast nSub_zero i)))
      ∗ ((bigSep Finset.univ fun i : Fin ((K (F := F)).nSub 0) => comes tA tB d (tileIx (Fin.cast nCore_zero c) (Fin.cast nSub_zero i)))
          -∗ bigSep Finset.univ fun i : Fin 16 => comes tA tB d (tileIx (Fin.cast nCore_zero c) i)))
  iintro H; imodintro
  isplitl [H]; · iexact H
  iintro H; iexact H

end Carried

end Cert.Proof.Band

end
-- ==== Proof.Strip.lean ====
/-
  One point of the TensorCore's grid: from 640 rows of the band, 640 rows of the result. The rows are zero outside the
  640 columns that belong to them; inside, they are the band's rows spread out (`spread`).
-/
module

public import proofs.«01_k».proof.Proof.Setup
public import proofs.«01_k».proof.Proof.Gen.KernelIdeal.Skeleton

@[expose] public section

noncomputable section

namespace Cert.Proof.Band

open Cert.KernelIdeal Cert.KernelIdeal.Gen
open Idealize.ShloMosaic Idealize.ShloMosaic.Routing Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- 640 rows of the band spread over the 640 columns that belong to them, as the kernel computes it. -/
def spread (B : S640x20.Idx → F .f32) : S640x640.Idx → F .f32 :=
  k1_pay6 (k1_pay2 B) (iota .tc S640x640 32 [0] iota_S640x640_d0_w32) k1_pay3 k1_pay4 k1_pay5

/-- The rows of the result that point `s` of the grid leaves. -/
def strip (s : ℕ) (B : S640x20.Idx → F .f32) : S640x5000.Idx → F .f32 := fun y =>
  if h : 640 * s ≤ (y 1).val ∧ (y 1).val < 640 * s + 640 then spread B (ix2 (y 0) ⟨(y 1).val - 640 * s, by omega⟩) else zeroF

theorem cond1_iff : ∀ i : grid1.Coords, k1_cond1 i = 1#1 ↔ (i 0).val < 7 := by decide +kernel
theorem cond2_iff : ∀ i : grid1.Coords, k1_cond2 i = 1#1 ↔ (i 0).val = 7 := by decide +kernel

theorem strip_zero {s : ℕ} {B : S640x20.Idx → F .f32} {y : S640x5000.Idx} (h : (y 1).val < 640 * s ∨ 640 * s + 640 ≤ (y 1).val) :
    strip s B y = zeroF := by
  unfold strip; rw [dif_neg]; omega

theorem strip_spread {s : ℕ} {B : S640x20.Idx → F .f32} {y : S640x5000.Idx} (c : Fin 640) (h : (y 1).val = 640 * s + c.val) :
    strip s B y = spread B (ix2 (y 0) c) := by
  have := c.isLt
  unfold strip; rw [dif_pos ⟨by omega, by omega⟩]
  congr 2; ext; show (y 1).val - 640 * s = c.val; omega

section Run

variable {sp : Space} (M : Memref sig .tc sp S640x5000 .f32) (f : M.view.ty.Contents (Elt F))

/-- What a point before the last leaves is the strip, -/
theorem read_strip (s : ℕ) (B : S640x20.Idx → F .f32) (off0 : Fin 2 → ℕ) (h0 : off0 = ![0, 0]) (inb0 : ∀ a, off0 a + S640x5000.size a ≤ S640x5000.size a)
    (off : Fin 2 → ℕ) (ho : off = ![0, 640 * s]) (inb : ∀ a, off a + S640x640.size a ≤ S640x5000.size a) :
    M.view.read (Elt F) (M.view.writes (Elt F) f [⟨Rect.unit (s := S640x5000) off S640x640.size inb, spread B⟩,
      ⟨Rect.unit (s := S640x5000) off0 S640x5000.size inb0, k1_pay7 (F := F)⟩]) = strip s B := by
  subst ho h0
  funext y
  by_cases h : 640 * s ≤ (y 1).val ∧ (y 1).val < 640 * s + 640
  · rw [strip_spread (⟨(y 1).val - 640 * s, by omega⟩ : Fin 640) (by show _ = 640 * s + ((y 1).val - 640 * s); omega)]
    generalize spread B = W
    refine (View.read_writes_cons_hit_of_coords _ f _ _ _ (ix2 (y 0) ⟨(y 1).val - 640 * s, by omega⟩ : S640x640.Idx) y fun a => ?_).trans rfl
    match a with
    | ⟨0, _⟩ => show (y 0).val = 0 + 1 * (y 0).val; omega
    | ⟨1, _⟩ => show (y 1).val = 640 * s + 1 * ((y 1).val - 640 * s); omega
  · rw [strip_zero (by omega), View.read_writes_cons_miss_of_axis _ f _ _ y 1 (640 * s) 640 rfl rfl rfl (by omega)]
    refine (View.read_writes_cons_hit_of_coords _ f _ _ _ (y : S640x5000.Idx) y fun a => ?_).trans rfl
    match a with
    | ⟨0, _⟩ => show (y 0).val = 0 + 1 * (y 0).val; omega
    | ⟨1, _⟩ => show (y 1).val = 0 + 1 * (y 1).val; omega

/-- and what the last leaves, whose columns the array's end cuts. -/
theorem read_strip_last (B : S640x20.Idx → F .f32) (off0 : Fin 2 → ℕ) (h0 : off0 = ![0, 0]) (inb0 : ∀ a, off0 a + S640x5000.size a ≤ S640x5000.size a)
    (off : Fin 2 → ℕ) (ho : off = ![0, 4480]) (inb : ∀ a, off a + S640x520.size a ≤ S640x5000.size a) :
    M.view.read (Elt F) (M.view.writes (Elt F) f [⟨Rect.unit (s := S640x5000) off S640x520.size inb, k1_pay1 (spread B)⟩,
      ⟨Rect.unit (s := S640x5000) off0 S640x5000.size inb0, k1_pay7 (F := F)⟩]) = strip 7 B := by
  subst ho h0
  funext y
  have hy : (y 1).val < 5000 := (y 1).isLt
  by_cases h : 4480 ≤ (y 1).val
  · rw [strip_spread (⟨(y 1).val - 4480, by omega⟩ : Fin 640) (by show _ = 640 * 7 + ((y 1).val - 4480); omega)]
    refine (View.read_writes_cons_hit_of_coords _ f _ _ _ (ix2 (y 0) ⟨(y 1).val - 4480, by omega⟩ : S640x520.Idx) y fun a => ?_).trans ?_
    · match a with
      | ⟨0, _⟩ => show (y 0).val = 0 + 1 * (y 0).val; omega
      | ⟨1, _⟩ => show (y 1).val = 4480 + 1 * ((y 1).val - 4480); omega
    · unfold k1_pay1 extractStridedSlice
      refine congrArg (spread B) (funext fun a => Fin.ext ?_)
      match a with
      | ⟨0, _⟩ => show 0 + (y 0).val = (y 0).val; omega
      | ⟨1, _⟩ => show 0 + ((y 1).val - 4480) = (y 1).val - 4480; omega
  · rw [strip_zero (by omega), View.read_writes_cons_miss_of_axis _ f _ _ y 1 4480 520 rfl rfl rfl (by omega)]
    refine (View.read_writes_cons_hit_of_coords _ f _ _ _ (y : S640x5000.Idx) y fun a => ?_).trans rfl
    match a with
    | ⟨0, _⟩ => show (y 0).val = 0 + 1 * (y 0).val; omega
    | ⟨1, _⟩ => show (y 1).val = 0 + 1 * (y 1).val; omega

theorem readAt_band (N : Memref sig .tc sp S640x20 .f32) (g : N.view.ty.Contents (Elt F)) (off0 : Fin 2 → ℕ) (h0 : off0 = ![0, 0])
    (inb0 : ∀ a, off0 a + S640x20.size a ≤ S640x20.size a) :
    N.view.readAt (Elt F) (Rect.unit (s := S640x20) off0 S640x20.size inb0).toLoadRect g = N.view.read (Elt F) g := by
  subst h0
  funext x
  show N.view.read (Elt F) g _ = _
  congr 1
  funext a
  apply Fin.ext
  match a with
  | ⟨0, _⟩ => show 0 + 1 * (x 0).val = (x 0).val; omega
  | ⟨1, _⟩ => show 0 + 1 * (x 1).val = (x 1).val; omega

end Run

set_option maxRecDepth 65536 in
/-- The body on any two buffers: the first unchanged, the second at the strip. -/
theorem strip_run (c : Dev nD) (i : grid1.Coords) (M : Memref sig .tc .vmem S640x20 .f32) (hM : M.IsWhole)
    (N : Memref sig .tc .vmem S640x5000 .f32) (hN : N.IsWhole) (X0 : S640x20.Idx → F .f32) (X1 : S640x5000.Idx → F .f32) (Q : PUnit → sProp 𝕄) :
    iprop((owns (c : Thread nD τ) M fullShare X0 ∗ owns (c : Thread nD τ) N fullShare X1)
        ∗ (iprop(owns (c : Thread nD τ) M fullShare X0 ∗ owns (c : Thread nD τ) N fullShare (strip (i 0).val X0)) -∗ Q ⟨⟩))
      ⊢ wp frame (wpE (defs₀ (F := F)) 𝒱₀ c none) Set.univ (cc1__tc_strip_kernel i M hM N hN) Q := by
  have h8 : (i 0).val < 8 := (i 0).isLt
  rw [cc1__tc_strip_kernel_eq_skeleton]
  unfold cc1__tc_strip_kernel_skel
  rw [k1_part1_eq_skeleton, k1_part2_eq_skeleton]
  unfold k1_part1_skel k1_part2_skel
  unfold owns
  have hp : ∀ {α : Type} (a : α), (Pure.pure a : Prog (TpuEff nD τ sig (Elt F) Λ₀ .tc) α) = .ret a := fun _ => rfl
  rcases Nat.lt_or_ge (i 0).val 7 with h | h
  · have c1 : k1_cond1 i = 1#1 := (cond1_iff i).mpr h
    have c2 : ¬ k1_cond2 i = 1#1 := fun e => by have := (cond2_iff i).mp e; omega
    simp only [Prog.lift, hp, Prog.bind_op, Prog.bind_ret, dif_pos c1, dif_neg c2]
    iintro ⟨⟨⟨%f0, %hf0, H0⟩, ⟨%f1, %hf1, H1⟩⟩, Hk⟩
    sl_steps
    iapply Hk
    isplitl [H0]
    · iexists f0; isplitr; · ipureintro; exact hf0
      iexact H0
    · iexists _; isplitr; swap; · iexact H1
      ipureintro
      rw [readAt_band _ _ _ rfl, hf0]
      exact read_strip N f1 (i 0).val X0 _ rfl _ _ (k1_off1_eq i) _
  · have e7 : (i 0).val = 7 := by omega
    have c1 : ¬ k1_cond1 i = 1#1 := fun e => by have := (cond1_iff i).mp e; omega
    have c2 : k1_cond2 i = 1#1 := (cond2_iff i).mpr e7
    simp only [Prog.lift, hp, Prog.bind_op, Prog.bind_ret, dif_neg c1, dif_pos c2]
    iintro ⟨⟨⟨%f0, %hf0, H0⟩, ⟨%f1, %hf1, H1⟩⟩, Hk⟩
    sl_steps
    iapply Hk
    isplitl [H0]
    · iexists f0; isplitr; · ipureintro; exact hf0
      iexact H0
    · iexists _; isplitr; swap; · iexact H1
      ipureintro
      rw [readAt_band _ _ _ rfl, hf0, e7]
      exact read_strip_last N f1 X0 _ rfl _ _ ((k1_off2_eq i).trans (by rw [e7])) _

end Cert.Proof.Band

end
-- ==== Proof.Region.lean ====
/-
  The TensorCore's pipeline, from any band: eight points, each from its 640 rows of the band to its 640 rows of the
  result, the last cut at the array's end. It leaves the result at `spreadAll`.
-/
module

public import proofs.«01_k».proof.Proof.Strip
public import Idealize.ShloMosaic.Lib.Pipeline.RegionArraysS
public import Idealize.ShloMosaic.Lib.Pipeline.ValueKit.Geometry

@[expose] public section

noncomputable section

namespace Cert.Proof.Band

open Cert.KernelIdeal Cert.KernelIdeal.Gen
open Idealize.ShloMosaic Idealize.ShloMosaic.Routing Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligationLoose)

variable {F : FTy → Type} [FloatOps F]

local notation "𝕄" => MT nD τ sig (HIx 1) (Elt F) ℕ UU ℕ

/-- 640 rows of a band. -/
def bandRows (f : S5120x20.Idx → F .f32) (s : ℕ) (hs : s < 8) : S640x20.Idx → F .f32 :=
  fun y => f (ix2 ⟨640 * s + (y 0).val, by have : (y 0).val < 640 := (y 0).isLt; omega⟩ (y 1))

/-- The result the band `f` spreads to. -/
def spreadAll (f : S5120x20.Idx → F .f32) : S5000x5000.Idx → F .f32 := fun x =>
  strip ((x 0).val / 640) (bandRows f ((x 0).val / 640) (by have : (x 0).val < 5000 := (x 0).isLt; omega))
    (ix2 (⟨(x 0).val % 640, by omega⟩ : Fin 640) (x 1))

variable (V : Dev nD → Valuation τ sig (Elt F))

/-- The band at entry. -/
abbrev bandAt (c : Dev nD) : S5120x20.Idx → F .f32 := V c (Proc.devRef .tc main_v6)

/-- The pipeline's data: the arrays as they are at entry; after a point the band's rows and the strip they give. -/
def dat (c : Dev nD) : Dat τ (Elt F) (HIx 1) ℕ UU ℕ cfg1 c where
  A w := match w with
    | ⟨0, _⟩ => V c (Proc.devRef .tc main_v6)
    | ⟨1, _⟩ => V c (Proc.devRef .tc main_v7)
  after w t := match w with
    | ⟨0, _⟩ => bandRows (bandAt V c) (grid1.coords t 0).val (grid1.coords t 0).isLt
    | ⟨1, _⟩ => strip (grid1.coords t 0).val (bandRows (bandAt V c) (grid1.coords t 0).val (grid1.coords t 0).isLt)
  Φ _ := iprop(emp)
  q _ := fullShare
  owed _ := 0

theorem at_in : ∀ t : Fin cfg1.N, win1_0.index t = ![(grid1.coords t 0).val, 0] := by decide +kernel
theorem at_out : ∀ t : Fin cfg1.N, win1_1.index t = ![(grid1.coords t 0).val, 0] := by decide +kernel

/-- Where the block of the result at point `t` lies. -/
theorem emb_out (t : Fin cfg1.N) (y : (win1_1.xblock (grid1.coords t)).Idx) (a : Fin win1_1.shape.rank) :
    ((win1_1.blk t).view.emb y a).val = win1_1.index t a * win1_1.size a + (y a).val :=
  win1_1.rect_emb_val t y a rfl

theorem before_in (c : Dev nD) (t : Fin cfg1.N) (d) :
    (dat V c).before (0 : Fin 2) t d = bandRows (bandAt V c) (grid1.coords t 0).val (grid1.coords t 0).isLt := by
  unfold Dat.before; rw [if_pos (fetch1_0 t)]
  funext y
  refine ((cfg1.win (0 : Fin 2)).fill_xinj (grid1.coords t) d _ y).trans ?_
  show bandAt V c (((cfg1.win (0 : Fin 2)).blk t).view.emb y) = bandAt V c _
  congr 1; funext a; apply Fin.ext
  match a with
  | ⟨0, _⟩ => blk_simp; rw [at_in t]; show (grid1.coords t 0).val * 640 + (y 0).val = 640 * (grid1.coords t 0).val + (y 0).val; omega
  | ⟨1, _⟩ => blk_simp; rw [at_in t]; show 0 * 20 + (y 1).val = (y 1).val; omega

theorem body_obligation (c : Dev nD) : BodyObligationLoose (dat V c) (defs₀ (F := F)) 𝒱₀ none Set.univ := fun t => by
  rw [bigSep_W1, bigSep_W1]
  simp only
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩⟩
  rw [before_in V c t d0]
  iapply (strip_run (F := F) c (grid1.coords t) (win1_0.stage (cfg1.slots t 0)) (hstage1_0 ((cfg1.slots t 0).cast nbuf1_0))
    (win1_1.stage (cfg1.slots t 1)) (hstage1_1 ((cfg1.slots t 1).cast nbuf1_1))
    (bandRows (bandAt V c) (grid1.coords t 0).val (grid1.coords t 0).isLt) ((dat V c).before (1 : Fin 2) t d1) _)
  isplitl [H0 H1]
  · isplitl [H0]; · iexact H0
    iexact H1
  iintro ⟨H0, H1⟩
  isplitl [HΦ]; · iexact HΦ
  isplitl [Ho]; · iexact Ho
  isplitl [H0]; · iexact H0
  iexists (dat V c).after (1 : Fin 2) t
  rw [(cfg1.win (1 : Fin 2)).fill_cut]
  iexact H1

/-- The result's array after the last point. -/
theorem final (c : Dev nD) : (dat V c).arrAt (1 : Fin 2) cfg1.N = (spreadAll (bandAt V c) : Buf (Elt F) ((c : Thread nD τ).loc main_v7)) := by
  refine (dat V c).arrAt_eq_of_covers (1 : Fin 2) _ (by decide +kernel) (fun t hf y => ?_)
  have e0 : ((((cfg1.win (1 : Fin 2)).blk t).view.emb y) 0 : ℕ) = 640 * (grid1.coords t 0).val + (y 0).val := by
    rw [show _ = _ from emb_out t y (0 : Fin 2), at_out t]; show (grid1.coords t 0).val * 640 + (y 0).val = _; omega
  have e1 : ((((cfg1.win (1 : Fin 2)).blk t).view.emb y) 1 : ℕ) = (y 1).val := by
    rw [show _ = _ from emb_out t y (1 : Fin 2), at_out t]; show 0 * 5000 + (y 1).val = _; omega
  have hy : (y 0).val < 640 := Nat.lt_of_lt_of_le (y 0).isLt ((cfg1.win (1 : Fin 2)).xsize_le (grid1.coords t) 0)
  have hd : (640 * (grid1.coords t 0).val + (y 0).val) / 640 = (grid1.coords t 0).val := by omega
  have hm : (640 * (grid1.coords t 0).val + (y 0).val) % 640 = (y 0).val := by omega
  generalize ((cfg1.win (1 : Fin 2)).blk t).view.emb y = x at e0 e1
  have key : ∀ (s s' : ℕ) (hs : s < 8) (hs' : s' < 8) (u u' : S640x5000.Idx), s = s' → u = u' →
      strip s (bandRows (bandAt V c) s hs) u = strip s' (bandRows (bandAt V c) s' hs') u' := by
    rintro s s' hs hs' u u' rfl rfl; rfl
  show strip (grid1.coords t 0).val (bandRows (bandAt V c) (grid1.coords t 0).val (grid1.coords t 0).isLt)
    (win1_1.xinj (grid1.coords t) y) = spreadAll (bandAt V c) x
  unfold spreadAll
  refine key _ _ _ _ _ _ ?_ ?_
  · rw [e0, hd]
  · funext a; apply Fin.ext
    match a with
    | ⟨0, _⟩ => show (y 0).val = _ % 640; rw [e0, hm]
    | ⟨1, _⟩ => exact e1.symm

/-! ## The region over the thread's buffers -/

abbrev adm : (p : Fin 1) → (pcfgs (F := F) p).Adm := fun q => (cfgs q).toPCfg_adm

abbrev pdats : (p : Fin 1) → (c : Dev nD) → Dat τ (Elt F) (HIx 1) ℕ UU ℕ (Pipeline.pin (pcfgs (F := F)) adm p) c :=
  fun _ c => dat V c

theorem cut : Pipeline.LevelCut (pcfgs (F := F)) adm (none : HIx 1) (K (F := F)).L (K (F := F)).lev 0 (fun _ => 0) (fun _ : Dev nD => 0) where
  hι _ _ _ := Finset.mem_univ _
  hιb _ _ _ := le_rfl
  hD _ _ _ h := absurd h (lt_irrefl _)

set_option backward.isDefEq.respectTransparency.types false in
/-- The region, over any set of buffers held. -/
def region (S : Finset (DevRef τ sig)) (R : Dev nD → sProp 𝕄) :
    Pipeline.RegionSeg (pcfgs (F := F)) adm (pdats V) none defs₀ 𝒱₀ (K (F := F)).L (K (F := F)).lev 0 :=
  Pipeline.RegionSeg.ofHeldIn (pcfgs (F := F)) adm (pdats V) none defs₀ 𝒱₀ (K (F := F)).L (K (F := F)).lev 0 (fun _ => 0) S
    (fun _ => iprop(emp)) (fun _ => iprop(emp)) launch1.toP rfl (body_obligation V) (fun _ _ => rfl) (fun _ => rfl)
    (fun c w => (dat V c).share_full (fun _ => rfl) w)
    (fun c => by
      show iprop(Pipeline.scopedRest spec1 c ∗ emp) ⊢ (iprop(emp) : sProp 𝕄)
      rw [scopedRest1_eq]; iintro ⟨-, -⟩; iempintro)
    (fun c => by
      show (iprop(emp) : sProp 𝕄) ⊢ iprop(Pipeline.scopedRest spec1 c ∗ emp)
      rw [scopedRest1_eq]; iintro -; isplitr <;> iempintro)
    (fun _ => 0) cut R V
    (fun c w => by fin_cases w <;> rfl)

end Cert.Proof.Band

end
-- ==== Proof.Host.lean ====
/-
  @main around its two kernels: the host operations before them as a list, the two tables those operations make, and
  what the unscoped buffers hold at each stage.
-/
module

public import proofs.«01_k».proof.Proof.Region

@[expose] public section

noncomputable section

namespace Cert.Proof.Band

open Cert.KernelIdeal Cert.KernelIdeal.Gen
open Idealize.ShloMosaic Idealize.ShloMosaic.Routing Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The host's operations before the kernels, in order. -/
abbrev ahead : List (HloOp τ sig (Elt F)) :=
  [StableHlo.TRef.unary (.of main_arg0 : StableHlo.TRef sig ⟨S250x20x4, .f32⟩) main_call0.v0 (extractStridedSlice S249x20x4 ![1, 0, 0] · slices_S250x20x4_S249x20x4_1_0_0),
   StableHlo.TRef.unary (.of main_arg0 : StableHlo.TRef sig ⟨S250x20x4, .f32⟩) main_call0.v1 (extractStridedSlice S1x20x4 ![0, 0, 0] · slices_S250x20x4_S1x20x4_0_0_0),
   StableHlo.TRef.binary main_call0.v0 main_call0.v1 main_call0.v2 (fun a b => concatenate S250x20x4 0 [⟨S249x20x4, a⟩, ⟨S1x20x4, b⟩] concatenates_S249x20x4_S1x20x4_S250x20x4_d0),
   StableHlo.reshape main_v0 main_v1 (rfl : (.f32 : EltTy) = .f32) shapeCasts_S250x20x4_S5000x4,
   StableHlo.TRef.unary (.of main_arg0 : StableHlo.TRef sig ⟨S250x20x4, .f32⟩) main_call1.v0 (extractStridedSlice S248x20x4 ![2, 0, 0] · slices_S250x20x4_S248x20x4_2_0_0),
   StableHlo.TRef.unary (.of main_arg0 : StableHlo.TRef sig ⟨S250x20x4, .f32⟩) main_call1.v1 (extractStridedSlice S2x20x4 ![0, 0, 0] · slices_S250x20x4_S2x20x4_0_0_0),
   StableHlo.TRef.binary main_call1.v0 main_call1.v1 main_call1.v2 (fun a b => concatenate S250x20x4 0 [⟨S248x20x4, a⟩, ⟨S2x20x4, b⟩] concatenates_S248x20x4_S2x20x4_S250x20x4_d0),
   StableHlo.reshape main_v2 main_v3 (rfl : (.f32 : EltTy) = .f32) shapeCasts_S250x20x4_S5000x4,
   StableHlo.nullary main_c (constantI S_ 32 0#32),
   StableHlo.TRef.unary (.of main_c : StableHlo.TRef sig ⟨S_, .i32⟩) main_call2.v0 (sitofp .f32),
   StableHlo.TRef.binary (.of main_v1 : StableHlo.TRef sig ⟨S5000x4, .f32⟩) main_call2.v0 main_call2.v1 (fun x v => pad S5120x4 ![0, 0] ![120, 0] ![0, 0] x v pads_S5000x4_S5120x4_01200_000 h_S_),
   StableHlo.nullary main_c_0 (constantI S_ 32 0#32),
   StableHlo.TRef.unary (.of main_c_0 : StableHlo.TRef sig ⟨S_, .i32⟩) main_call3.v0 (sitofp .f32),
   StableHlo.TRef.binary (.of main_v3 : StableHlo.TRef sig ⟨S5000x4, .f32⟩) main_call3.v0 main_call3.v1 (fun x v => pad S5120x4 ![0, 0] ![120, 0] ![0, 0] x v pads_S5000x4_S5120x4_01200_000 h_S_)]

/-- And the one after them. -/
abbrev behind : HloOp τ sig (Elt F) :=
  StableHlo.reshape main_v7 main_v8 (rfl : (.f32 : EltTy) = .f32) shapeCasts_S5000x5000_S1x5000x5000

theorem main_eq (d : Dev nD) : main (F := F) d =
    (StableHlo.seq ahead >>= fun _ => sc.run d 0 >>= fun _ =>
      Prog.lift (.customCall (SparseCore.inner (Pipeline.entry 0)) ()) >>= fun _ => hlo rfl behind fun _ => .ret ⟨⟩) := rfl

theorem ahead_tc : (ahead (F := F)).Forall fun op => op.bufs ⊆ StableHlo.tcRefs τ sig :=
  ⟨StableHlo.unary_bufs_sub .., StableHlo.unary_bufs_sub .., StableHlo.binary_bufs_sub .., StableHlo.reshape_bufs_sub ..,
    StableHlo.unary_bufs_sub .., StableHlo.unary_bufs_sub .., StableHlo.binary_bufs_sub .., StableHlo.reshape_bufs_sub ..,
    StableHlo.nullary_bufs_sub .., StableHlo.unary_bufs_sub .., StableHlo.binary_bufs_sub ..,
    StableHlo.nullary_bufs_sub .., StableHlo.unary_bufs_sub .., StableHlo.binary_bufs_sub ..⟩

theorem ahead_sub : ∀ op ∈ (ahead (F := F)), op.bufs ⊆ Pipeline.ucRefs τ sig := fun op h =>
  Pipeline.sub_ucRefs op (List.forall_iff_forall_mem.mp ahead_tc op h)

theorem ahead_fresh : ∀ op ∈ (ahead (F := F)), op.fresh = ∅ :=
  List.forall_iff_forall_mem.mp ⟨rfl, rfl, rfl, rfl, rfl, rfl, rfl, rfl, rfl, rfl, rfl, rfl, rfl, rfl⟩

/-! ## What the two tables hold -/

/-- Shifts of the frames by one and by two, wrapping round, each as 5000 rows and then padded with zeros to 5120. -/
def rollOne (x : S250x20x4.Idx → F .f32) : S250x20x4.Idx → F .f32 :=
  concatenate S250x20x4 0 [⟨S249x20x4, extractStridedSlice S249x20x4 ![1, 0, 0] x slices_S250x20x4_S249x20x4_1_0_0⟩,
    ⟨S1x20x4, extractStridedSlice S1x20x4 ![0, 0, 0] x slices_S250x20x4_S1x20x4_0_0_0⟩] concatenates_S249x20x4_S1x20x4_S250x20x4_d0
def rollTwo (x : S250x20x4.Idx → F .f32) : S250x20x4.Idx → F .f32 :=
  concatenate S250x20x4 0 [⟨S248x20x4, extractStridedSlice S248x20x4 ![2, 0, 0] x slices_S250x20x4_S248x20x4_2_0_0⟩,
    ⟨S2x20x4, extractStridedSlice S2x20x4 ![0, 0, 0] x slices_S250x20x4_S2x20x4_0_0_0⟩] concatenates_S248x20x4_S2x20x4_S250x20x4_d0
def padded (y : S250x20x4.Idx → F .f32) : S5120x4.Idx → F .f32 :=
  pad S5120x4 ![0, 0] ![120, 0] ![0, 0] (shapeCast S5000x4 y shapeCasts_S250x20x4_S5000x4)
    (sitofp .f32 (constantI S_ 32 0#32)) pads_S5000x4_S5120x4_01200_000 h_S_

variable (V : Valuation τ sig (Elt F))

theorem ahead_a : StableHlo.after ahead V (Proc.devRef .tc main_v4) = padded (rollOne (V (Proc.devRef .tc main_arg0))) := by
  simp only [ahead, StableHlo.TRef.binary, StableHlo.TRef.unary, StableHlo.TRef.toBuf, StableHlo.TRef.ofBuf, cast_eq]
  after_results_simp
  all_goals rfl
theorem ahead_b : StableHlo.after ahead V (Proc.devRef .tc main_v5) = padded (rollTwo (V (Proc.devRef .tc main_arg0))) := by
  simp only [ahead, StableHlo.TRef.binary, StableHlo.TRef.unary, StableHlo.TRef.toBuf, StableHlo.TRef.ofBuf, cast_eq]
  after_results_simp
  all_goals rfl
theorem ahead_arg : StableHlo.after ahead V (Proc.devRef .tc main_arg0) = V (Proc.devRef .tc main_arg0) := by
  simp only [ahead, StableHlo.TRef.binary, StableHlo.TRef.unary, StableHlo.TRef.toBuf, StableHlo.TRef.ofBuf, cast_eq]
  after_results_simp
  all_goals rfl
theorem ahead_band : StableHlo.after ahead V (Proc.devRef .tc main_v6) = V (Proc.devRef .tc main_v6) := by
  simp only [ahead, StableHlo.TRef.binary, StableHlo.TRef.unary, StableHlo.TRef.toBuf, StableHlo.TRef.ofBuf, cast_eq]
  after_results_simp
  all_goals rfl

end Cert.Proof.Band

end
-- ==== Proof.Rows.lean ====
/-
  The three arrays the SparseCores' call takes, whole, against their 32 tiles' rows: split for the call, joined after
  it. The band joins to one that every tile's entries hold of.
-/
module

public import proofs.«01_k».proof.Proof.Setup

@[expose] public section

noncomputable section

namespace Cert.Proof.Band

open Cert.KernelIdeal Cert.KernelIdeal.Gen
open Idealize.ShloMosaic Idealize.ShloMosaic.Routing Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The pairs of a SparseCore and a subcore are the 32 tiles. -/
def tiles : Fin 2 × Fin 16 ≃ Fin 32 where
  toFun p := tileIx p.1 p.2
  invFun w := (⟨w.val % 2, by omega⟩, ⟨w.val / 2, by omega⟩)
  left_inv p := Prod.ext (Fin.ext (by show (2 * p.2.val + p.1.val) % 2 = p.1.val; omega))
    (Fin.ext (by show (2 * p.2.val + p.1.val) / 2 = p.2.val; omega))
  right_inv w := Fin.ext (by show 2 * (w.val / 2) + w.val % 2 = w.val; omega)

theorem over_tiles (Φ : Fin 32 → sProp 𝕄) :
    (bigSep Finset.univ fun c : Fin ((K (F := F)).nCore 0) => bigSep Finset.univ fun i : Fin 16 => Φ (tileIx (Fin.cast nCore_zero c) i))
      = bigSep Finset.univ Φ := by
  rw [bigSep_univ_equiv tiles Φ, bigSep_univ_prod]
  rfl

theorem set_arow (w : Fin 32) : aRowSet w = (arow w).set := by
  show ((View.whole (main_v4_scv : Ref sig .scVector)).slice (arow w)).set = _
  rw [View.set_slice]; exact Finset.map_refl
theorem set_orow (w : Fin 32) : oRowSet w = (orow w).set := by
  show ((View.whole (main_v6_scv : Ref sig .scVector)).slice (orow w)).set = _
  rw [View.set_slice]; exact Finset.map_refl

theorem apart_a (v : Fin 32) (_ : v ∈ Finset.univ) (w : Fin 32) (_ : w ∈ Finset.univ) (h : v ≠ w) : Disjoint (aRowSet v) (aRowSet w) := by
  rw [set_arow, set_arow]; exact Rect.part_disjoint adiv h
theorem apart_o (v : Fin 32) (_ : v ∈ Finset.univ) (w : Fin 32) (_ : w ∈ Finset.univ) (h : v ≠ w) : Disjoint (oRowSet v) (oRowSet w) := by
  rw [set_orow, set_orow]; exact Rect.part_disjoint odiv h
theorem all_a : (Finset.univ : Finset (Fin 32)).biUnion aRowSet = Finset.univ := by
  rw [Finset.biUnion_congr rfl fun w _ => set_arow w]; exact Rect.biUnion_part adiv
theorem all_o : (Finset.univ : Finset (Fin 32)).biUnion oRowSet = Finset.univ := by
  rw [Finset.biUnion_congr rfl fun w _ => set_orow w]; exact Rect.biUnion_part odiv

theorem mem_orow (w : Fin 32) (r : Fin 160) (j : Fin 20) : (ix2 (gRow w r) j : S5120x20.Idx) ∈ oRowSet w := by
  rw [set_orow]; unfold orow Rect.part Rect.block
  refine Rect.mem_set_unit.mpr fun a => ?_
  have hr := r.isLt; have hj := j.isLt
  match a with
  | ⟨0, _⟩ => simp [Shape.partIx, Shape.partSize, ix2, gRow]; omega
  | ⟨1, _⟩ => simp [Shape.partIx, Shape.partSize, ix2]

section Split

variable (tA tB : Dev nD → S5120x4.Idx → F .f32) (m : (ℓ : Loc nD τ sig) → Buf (Elt F) ℓ)

theorem a_rows (d : Dev nD) (f : Buf (Elt F) (aLoc d)) :
    (aLoc d ↦{fullShare} f : sProp 𝕄) = bigSep Finset.univ fun w : Fin 32 => aLoc d ↦[aRowSet w]{fullShare} f := by
  rw [← pointsTo_biUnion Finset.univ (ℓ := aLoc d) aRowSet apart_a, all_a]; try rfl
theorem b_rows (d : Dev nD) (f : Buf (Elt F) (bLoc d)) :
    (bLoc d ↦{fullShare} f : sProp 𝕄) = bigSep Finset.univ fun w : Fin 32 => bLoc d ↦[aRowSet w]{fullShare} f := by
  rw [← pointsTo_biUnion Finset.univ (ℓ := bLoc d) aRowSet apart_a, all_a]; try rfl
theorem o_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet apart_o, all_o]; try rfl

/-- What the call takes: the two tables and the band, whole. -/
theorem call_takes (d : Dev nD) :
    iprop((aLoc d ↦{fullShare} (tA d : Buf (Elt F) (aLoc d))) ∗ (bLoc d ↦{fullShare} (tB d : Buf (Elt F) (bLoc d))) ∗ (oLoc d ↦{fullShare} m (oLoc d)))
      ⊢ (bigSep Finset.univ fun c : Fin ((K (F := F)).nCore 0) => (P tA tB m).st 0 d c : sProp 𝕄) := by
  refine BI.Entails.trans ?_ (Entails.of_eq (over_tiles (F := F) (goes tA tB m d)).symm)
  unfold goes
  rw [bigSep_sep', bigSep_sep', a_rows, b_rows, o_rows]
  exact BI.Entails.refl _

/-- The rows of the band the tiles bring back are one band, with every tile's entries. -/
theorem join_o (d : Dev nD) :
    (bigSep Finset.univ fun w : Fin 32 => iprop(∃ f : Buf (Elt F) (oLoc d), ⌜TileOK (tA d) (tB d) w f⌝ ∗ oRowPts d w f))
      ⊢ (iprop(∃ f : Buf (Elt F) (oLoc d), ⌜∀ w, TileOK (tA d) (tB d) w f⌝ ∗ oLoc d ↦{fullShare} f) : sProp 𝕄) := by
  have : Nonempty (Buf (Elt F) (oLoc d)) := ⟨fun _ => zeroF⟩
  refine (bigSep_exists_pi Finset.univ
    (fun w (f : Buf (Elt F) (oLoc d)) => iprop(⌜TileOK (tA d) (tB d) w f⌝ ∗ oRowPts d w f))).trans ?_
  iintro ⟨%fs, H⟩
  ihave H := (bigSep_pure_sep Finset.univ (fun w => TileOK (tA d) (tB d) w (fs w)) (fun w => oRowPts d w (fs w))) $$ H
  icases H with ⟨%hok, H⟩
  ihave H := (pointsTo_biUnion_join (ℓ := oLoc d) (q := fullShare) (Val := Elt F) Finset.univ oRowSet fs (fs 0) apart_o) $$ H
  icases H with ⟨%g, %hg, H⟩
  rw [all_o]
  iexists g
  isplitr
  · ipureintro
    intro w r j h
    exact (hg w (Finset.mem_univ w) _ (mem_orow w r j)).trans (hok w (Finset.mem_univ w) r j h)
  · iexact H

/-- What the call gives back. -/
theorem call_gives (d : Dev nD) :
    (bigSep Finset.univ fun c : Fin ((K (F := F)).nCore 0) => (P tA tB m).dn 0 d c : sProp 𝕄)
      ⊢ iprop((aLoc d ↦{fullShare} (tA d : Buf (Elt F) (aLoc d))) ∗ (bLoc d ↦{fullShare} (tB d : Buf (Elt F) (bLoc d)))
          ∗ ∃ f : Buf (Elt F) (oLoc d), ⌜∀ w, TileOK (tA d) (tB d) w f⌝ ∗ oLoc d ↦{fullShare} f) := by
  refine (Entails.of_eq (over_tiles (F := F) (comes tA tB d))).trans ?_
  unfold comes
  rw [bigSep_sep', bigSep_sep', a_rows, b_rows]
  iintro ⟨HA, HB, HO⟩
  isplitl [HA]; · iexact HA
  isplitl [HB]; · iexact HB
  iapply (join_o tA tB d); iexact HO

end Split

end Cert.Proof.Band

end
-- ==== Proof.Tile.lean ====
/-
  The task of one tile: its rows of the two tables fetched into scratch, the loop over its pairs, the band's rows
  written out. The loop's invariant says how many entries are in place.
-/
module

public import proofs.«01_k».proof.Proof.Setup

@[expose] public section

noncomputable section

namespace Cert.Proof.Band

open Cert.KernelIdeal Cert.KernelIdeal.Gen
open Idealize.ShloMosaic Idealize.ShloMosaic.Routing Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (tA tB : Dev nD → S5120x4.Idx → F .f32) (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
/-- The tile's number, below 32. -/
abbrev wL (L : grid0.Coords) : Fin 32 := ⟨tileNo L, tileNo_lt L⟩

/-! ## The arrays as the tile addresses them -/

abbrev arowK (L : grid0.Coords) : Rect S5120x4 := Rect.unit (s := S5120x4) (k0_off1 L) S160x4.size (k0_off1_inb L)
abbrev orowK (L : grid0.Coords) : Rect S5120x20 := Rect.unit (s := S5120x20) (k0_off2 L) S160x20.size (k0_off2_inb L)
abbrev aRowK (L : grid0.Coords) : Memref sig .scVector .hbm S160x4 .f32 := aV.slice (arowK L) (fun _ => rfl)
abbrev bRowK (L : grid0.Coords) : Memref sig .scVector .hbm S160x4 .f32 := bV.slice (arowK L) (fun _ => rfl)
abbrev oRowK (L : grid0.Coords) : Memref sig .scVector .hbm S160x20 .f32 := oV.slice (orowK L) (fun _ => rfl)

theorem off_row (i : grid0.Coords) : 320 * (i 1).val + 160 * (i 0).val = tileNo i * 160 := by unfold tileNo; ring

theorem arowK_eq : arowK L = arow (wL L) := by
  unfold arowK arow Rect.part Rect.block
  congr 1 <;> funext a
  · rw [k0_off1_eq]
    match a with
    | 0 => simp [Shape.partIx, Shape.partSize]; ring
    | 1 => simp [Shape.partIx, Shape.partSize]
  · match a with
    | 0 => simp [Shape.partSize]
    | 1 => simp [Shape.partSize]
theorem orowK_eq : orowK L = orow (wL L) := by
  unfold orowK orow Rect.part Rect.block
  congr 1 <;> funext a
  · rw [k0_off2_eq]
    match a with
    | 0 => simp [Shape.partIx, Shape.partSize]; ring
    | 1 => simp [Shape.partIx, Shape.partSize]
  · match a with
    | 0 => simp [Shape.partSize]
    | 1 => simp [Shape.partSize]

theorem set_aRowK : (aRowK L).view.set = aRowSet (wL L) := by
  show (aV.view.slice (arowK L)).set = (aV.view.slice (arow (wL L))).set
  exact arowK_eq L ▸ rfl
theorem set_bRowK : (bRowK L).view.set = aRowSet (wL L) := by
  show (bV.view.slice (arowK L)).set = (aV.view.slice (arow (wL L))).set
  exact arowK_eq L ▸ rfl
theorem set_oRowK : (oRowK L).view.set = oRowSet (wL L) := by
  show (oV.view.slice (orowK L)).set = (oV.view.slice (orow (wL L))).set
  exact orowK_eq L ▸ rfl

theorem pts_aRowK (f : Buf (Elt F) (aLoc d)) :
    ((aRowK L).view.loc (V d (cV L) (jV L)) ↦[(aRowK L).view.set]{fullShare} f : sProp 𝕄) = aLoc d ↦[aRowSet (wL L)]{fullShare} f := by
  rw [set_aRowK]
theorem pts_bRowK (f : Buf (Elt F) (bLoc d)) :
    ((bRowK L).view.loc (V d (cV L) (jV L)) ↦[(bRowK L).view.set]{fullShare} f : sProp 𝕄) = bLoc d ↦[aRowSet (wL L)]{fullShare} f := by
  rw [set_bRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]

/-- A scratch buffer's words, by the whole view and by the whole rectangle of it. -/
theorem set_sA : ((sA.access (.whole S160x4)).set : Finset S160x4.Idx) = Finset.univ := Memref.set_access_whole (cc0_scratch0 : Ref sig .scVector)
theorem set_sB : ((sB.access (.whole S160x4)).set : Finset S160x4.Idx) = Finset.univ := Memref.set_access_whole (cc0_scratch1 : Ref sig .scVector)
theorem set_sO : ((sO.access (.whole S160x20)).set : Finset S160x20.Idx) = Finset.univ := Memref.set_access_whole (cc0_scratch2 : Ref sig .scVector)

theorem read_sA (f : S160x4.Idx → F .f32) : (sA.access (.whole S160x4)).read (Elt F) f = f := Memref.read_access_whole (Elt F) (cc0_scratch0 : Ref sig .scVector) f
theorem read_sB (f : S160x4.Idx → F .f32) : (sB.access (.whole S160x4)).read (Elt F) f = f := Memref.read_access_whole (Elt F) (cc0_scratch1 : Ref sig .scVector) f
theorem read_sO (f : S160x20.Idx → F .f32) : (sO.access (.whole S160x20)).read (Elt F) f = f := Memref.read_access_whole (Elt F) (cc0_scratch2 : Ref sig .scVector) f
theorem write_sO (f g : S160x20.Idx → F .f32) : (sO.access (.whole S160x20)).write (Elt F) f g Finset.univ = g :=
  Memref.write_access_whole_univ (Elt F) (cc0_scratch2 : Ref sig .scVector) f g

/-! ## The loop -/

/-- What the loop holds after `n` trips: the two tables' rows, and the first `32 n` entries in place. -/
def inv (n : ℕ) (_ : Unit) : sProp 𝕄 :=
  iprop((sA.view.loc (V d (cV L) (jV L)) ↦{fullShare} slab (wL L) (tA d)) ∗ (sB.view.loc (V d (cV L) (jV L)) ↦{fullShare} slab (wL L) (tB d))
    ∗ ∃ f : S160x20.Idx → F .f32, ⌜Done (wL L).val (slab (wL L) (tA d)) (slab (wL L) (tB d)) (32 * n) f⌝ ∗ (sO.view.loc (V d (cV L) (jV L)) ↦{fullShare} f))

/-- Eight gathers of a half trip, four coordinates of each lane's row and of its partner's, and what follows them. -/
def gathers {α : Type} (row bi : IVec S16 32) (hr : InCols row) (hb : InCols bi)
    (G : (Fin 4 → Vec F S16 .f32) → (Fin 4 → Vec F S16 .f32) → Prog (TpuEff nD τ sig (Elt F) Λ₀ (.scVector (cV L) (jV L))) α) :
    Prog (TpuEff nD τ sig (Elt F) Λ₀ (.scVector (cV L) (jV L))) α := do
  let a0 ← SparseCore.vectorLoadIdx sA ![row, k0_pay43] hr.1 (View.loads_vmem h_S160x4)
  let a1 ← SparseCore.vectorLoadIdx sA ![row, k0_pay44] hr.2.1 (View.loads_vmem h_S160x4)
  let a2 ← SparseCore.vectorLoadIdx sA ![row, k0_pay45] hr.2.2.1 (View.loads_vmem h_S160x4)
  let a3 ← SparseCore.vectorLoadIdx sA ![row, k0_pay46] hr.2.2.2 (View.loads_vmem h_S160x4)
  let b0 ← SparseCore.vectorLoadIdx sB ![bi, k0_pay43] hb.1 (View.loads_vmem h_S160x4)
  let b1 ← SparseCore.vectorLoadIdx sB ![bi, k0_pay44] hb.2.1 (View.loads_vmem h_S160x4)
  let b2 ← SparseCore.vectorLoadIdx sB ![bi, k0_pay45] hb.2.2.1 (View.loads_vmem h_S160x4)
  let b3 ← SparseCore.vectorLoadIdx sB ![bi, k0_pay46] hb.2.2.2 (View.loads_vmem h_S160x4)
  G ![a0, a1, a2, a3] ![b0, b1, b2, b3]

theorem wp_gathers {α : Type} (row bi : IVec S16 32) (hr : InCols row) (hb : InCols bi)
    (G : (Fin 4 → Vec F S16 .f32) → (Fin 4 → Vec F S16 .f32) → Prog (TpuEff nD τ sig (Elt F) Λ₀ (.scVector (cV L) (jV L))) α)
    (A B : S160x4.Idx → F .f32) (Q : α → sProp 𝕄) :
    iprop((sA.view.loc (V d (cV L) (jV L)) ↦{fullShare} A) ∗ (sB.view.loc (V d (cV L) (jV L)) ↦{fullShare} B)
      ∗ (((sA.view.loc (V d (cV L) (jV L)) ↦{fullShare} A) ∗ (sB.view.loc (V d (cV L) (jV L)) ↦{fullShare} B))
        -∗ wp frame (wpE (defs₀ (F := F)) 𝒱₀ (V d (cV L) (jV L)) none) Set.univ
          (G ![loadIdx (F := F) (e := .f32) A ![row, k0_pay43] hr.1, loadIdx (F := F) (e := .f32) A ![row, k0_pay44] hr.2.1,
              loadIdx (F := F) (e := .f32) A ![row, k0_pay45] hr.2.2.1, loadIdx (F := F) (e := .f32) A ![row, k0_pay46] hr.2.2.2]
            ![loadIdx (F := F) (e := .f32) B ![bi, k0_pay43] hb.1, loadIdx (F := F) (e := .f32) B ![bi, k0_pay44] hb.2.1,
              loadIdx (F := F) (e := .f32) B ![bi, k0_pay45] hb.2.2.1, loadIdx (F := F) (e := .f32) B ![bi, k0_pay46] hb.2.2.2]) Q))
      ⊢ wp frame (wpE (defs₀ (F := F)) 𝒱₀ (V d (cV L) (jV L)) none) Set.univ (gathers L row bi hr hb G) Q := by
  unfold gathers
  iintro ⟨HA, HB, Hk⟩
  iapply (SparseCore.wp_vectorLoadIdx 𝒱₀ (V d (cV L) (jV L)) none Set.univ (base := sA) (S := Finset.univ) (q := fullShare) (Finset.subset_univ _)) $$ HA; iintro HA
  iapply (SparseCore.wp_vectorLoadIdx 𝒱₀ (V d (cV L) (jV L)) none Set.univ (base := sA) (S := Finset.univ) (q := fullShare) (Finset.subset_univ _)) $$ HA; iintro HA
  iapply (SparseCore.wp_vectorLoadIdx 𝒱₀ (V d (cV L) (jV L)) none Set.univ (base := sA) (S := Finset.univ) (q := fullShare) (Finset.subset_univ _)) $$ HA; iintro HA
  iapply (SparseCore.wp_vectorLoadIdx 𝒱₀ (V d (cV L) (jV L)) none Set.univ (base := sA) (S := Finset.univ) (q := fullShare) (Finset.subset_univ _)) $$ HA; iintro HA
  iapply (SparseCore.wp_vectorLoadIdx 𝒱₀ (V d (cV L) (jV L)) none Set.univ (base := sB) (S := Finset.univ) (q := fullShare) (Finset.subset_univ _)) $$ HB; iintro HB
  iapply (SparseCore.wp_vectorLoadIdx 𝒱₀ (V d (cV L) (jV L)) none Set.univ (base := sB) (S := Finset.univ) (q := fullShare) (Finset.subset_univ _)) $$ HB; iintro HB
  iapply (SparseCore.wp_vectorLoadIdx 𝒱₀ (V d (cV L) (jV L)) none Set.univ (base := sB) (S := Finset.univ) (q := fullShare) (Finset.subset_univ _)) $$ HB; iintro HB
  iapply (SparseCore.wp_vectorLoadIdx 𝒱₀ (V d (cV L) (jV L)) none Set.univ (base := sB) (S := Finset.univ) (q := fullShare) (Finset.subset_univ _)) $$ HB; iintro HB
  simp only [read_sA, read_sB]
  iapply Hk
  isplitl [HA] <;> iassumption

/-- The partner rows of the two halves. -/
abbrev biA (k : Fin (k0_t1_loop L).trips) : IVec S16 32 := k0_pay9 (k0_pay4 L lanes 0#32 1#32 k) (colA L k) 20#32
abbrev biB (k : Fin (k0_t1_loop L).trips) : IVec S16 32 := k0_pay22 (rowB L k) (colB L k)
/-- The block numbers of the two halves. -/
abbrev blkA (k : Fin (k0_t1_loop L).trips) : IVec S16 32 := k0_pay8 (baseW L) (k0_pay4 L lanes 0#32 1#32 k)
abbrev blkB (k : Fin (k0_t1_loop L).trips) : IVec S16 32 :=
  k0_pay21 (rowB L k) (fdivW .scalar (baseW L)) 20#32 (k0_pay18 (rowB L k)) (k0_pay19 (rowB L k)) k0_pay20

/-- A half trip's store. -/
abbrev storeO (row col : IVec S16 32) (h : ∀ a x, ((![row, col] : Fin 2 → IVec S16 32) a x).toNat < S160x20.size a) (v : Vec F S16 .f32) :
    Prog (TpuEff nD τ sig (Elt F) Λ₀ (.scVector (cV L) (jV L))) PUnit :=
  SparseCore.vectorStoreIdx sO ![row, col] v (fun _ => 1#1) false h (View.stores_vmem_bits_univ h_S160x20 rfl)

theorem wp_storeO {α : Type} (row col : IVec S16 32) (h : ∀ a x, ((![row, col] : Fin 2 → IVec S16 32) a x).toNat < S160x20.size a) (v : Vec F S16 .f32)
    (f : S160x20.Idx → F .f32) (k : PUnit → Prog (TpuEff nD τ sig (Elt F) Λ₀ (.scVector (cV L) (jV L))) α) (Q : α → sProp 𝕄) :
    iprop((sO.view.loc (V d (cV L) (jV L)) ↦{fullShare} f)
      ∗ ((sO.view.loc (V d (cV L) (jV L)) ↦{fullShare} storeIdx (F := F) (e := .f32) (s := S160x20) f ![row, col] v (fun _ => 1#1) false h)
        -∗ wp frame (wpE (defs₀ (F := F)) 𝒱₀ (V d (cV L) (jV L)) none) Set.univ (k ⟨⟩) Q))
      ⊢ wp frame (wpE (defs₀ (F := F)) 𝒱₀ (V d (cV L) (jV L)) none) Set.univ (storeO L row col h v >>= k) Q := by
  iintro ⟨HO, Hk⟩
  ihave HO' := (Entails.of_eq (show (sO.view.loc (V d (cV L) (jV L)) ↦{fullShare} f : sProp 𝕄)
    = ((sO.access (.whole S160x20)).loc (V d (cV L) (jV L)) ↦[(sO.access (.whole S160x20)).set]{fullShare} f) by rw [set_sO])) $$ HO
  iapply (SparseCore.wp_vectorStoreIdx 𝒱₀ (V d (cV L) (jV L)) none Set.univ (base := sO)) $$ HO'; iintro HO
  simp only [write_sO, read_sO]
  iapply Hk
  iapply (Entails.of_eq (show ((sO.access (.whole S160x20)).loc (V d (cV L) (jV L)) ↦[(sO.access (.whole S160x20)).set]{fullShare}
      storeIdx (F := F) (e := .f32) (s := S160x20) f ![row, col] v (fun _ => 1#1) false h : sProp 𝕄)
    = (sO.view.loc (V d (cV L) (jV L)) ↦{fullShare} storeIdx (F := F) (e := .f32) (s := S160x20) f ![row, col] v (fun _ => 1#1) false h) by rw [set_sO])) $$ HO

/-- A trip: each half's checks, its gathers and its store. -/
def tripProg (k : Fin (k0_t1_loop L).trips) : Prog (TpuEff nD τ sig (Elt F) Λ₀ (.scVector (cV L) (jV L))) Unit :=
  .op (.assume (k0_chk1 k0_pay43 k0_pay44 k0_pay45 k0_pay46 (k0_pay4 L lanes 0#32 1#32 k)) (k0_chk1.dec _ _ _ _ _)) fun h1 =>
  .op (.assume (k0_chk3 (k0_pay4 L lanes 0#32 1#32 k) (colA L k)) (k0_chk3.dec _ _)) fun h3 =>
  .op (.assume (k0_chk2 k0_pay43 k0_pay44 k0_pay45 k0_pay46 (biA L k)) (k0_chk2.dec _ _ _ _ _)) fun h2 =>
  gathers L (k0_pay4 L lanes 0#32 1#32 k) (biA L k) h1.down h2.down fun a b =>
  storeO L (k0_pay4 L lanes 0#32 1#32 k) (colA L k) h3.down
    (k0_pay12 (blkA L k) (a 1) (a 3) (b 0) (b 1) (b 2) (k0_pay10 (a 0) (a 1) (a 2) (a 3) (b 0) (b 1) (b 2) (b 3)) (k0_pay11 (a 0) (a 2))) >>= fun _ =>
  .op (.assume (k0_chk4 k0_pay43 k0_pay44 k0_pay45 k0_pay46 (rowB L k)) (k0_chk4.dec _ _ _ _ _)) fun h4 =>
  .op (.assume (k0_chk6 (rowB L k) (colB L k)) (k0_chk6.dec _ _)) fun h6 =>
  .op (.assume (k0_chk5 k0_pay43 k0_pay44 k0_pay45 k0_pay46 (biB L k)) (k0_chk5.dec _ _ _ _ _)) fun h5 =>
  gathers L (rowB L k) (biB L k) h4.down h5.down fun a b =>
  storeO L (rowB L k) (colB L k) h6.down (k0_pay1 (blkB L k) (a 0) (a 1) (a 2) (a 3) (b 0) (b 1) (b 2) (b 3)) >>= fun _ => .ret ⟨⟩

set_option maxRecDepth 65536 in
theorem trip_eq (k : Fin (k0_t1_loop L).trips) :
    k0_t1_body (F := F) L aV (Memref.isWhole_whole _) bV (Memref.isWhole_whole _) oV (Memref.isWhole_whole _) sA (Memref.isWhole_whole _)
        sB (Memref.isWhole_whole _) sO (Memref.isWhole_whole _) cc0_scratch3 cc0_scratch4 cc0_scoped0 lanes k0_pay43 k0_pay44 k0_pay45 k0_pay46 (baseW L) k ⟨⟩
      = tripProg L k := by
  unfold k0_t1_body tripProg gathers
  simp only [k0_part1_eq_skeleton, k0_part2_eq_skeleton, k0_part3_eq_skeleton, k0_part4_eq_skeleton, k0_part5_eq_skeleton, k0_part6_eq_skeleton]
  rfl

theorem mate_lt {n : ℕ} (hn : n < 3200) : n / 20 / 20 * 20 + n % 20 < 160 := by
  have h1 : n / 20 < 160 := by omega
  have h2 : n / 20 / 20 < 8 := by omega
  omega

/-- A half trip's stored value at a lane is the entry at its place. -/
theorem half_value {n : ℕ} (hn : n + 16 ≤ 3200) (A B : S160x4.Idx → F .f32) (row col bi blk : IVec S16 32)
    (hrow : ∀ x, row x = BitVec.ofNat 32 ((n + (x 0).val) / 20)) (hcol : ∀ x, col x = BitVec.ofNat 32 ((n + (x 0).val) % 20))
    (hbi : ∀ x, bi x = BitVec.ofNat 32 ((n + (x 0).val) / 20 / 20 * 20 + (n + (x 0).val) % 20))
    (hblk : ∀ x, blk x = BitVec.ofNat 32 (8 * tileNo L + (n + (x 0).val) / 20 / 20)) (hr : InCols row) (hb : InCols bi)
    (h : ∀ a x, ((![row, col] : Fin 2 → IVec S16 32) a x).toNat < S160x20.size a) (x : S16.Idx) :
    Scalar.select (IntOp.cmpi .ne (blk x) 248#32)
        (iou ![loadIdx (F := F) (e := .f32) A ![row, k0_pay43] hr.1 x, loadIdx (F := F) (e := .f32) A ![row, k0_pay44] hr.2.1 x,
            loadIdx (F := F) (e := .f32) A ![row, k0_pay45] hr.2.2.1 x, loadIdx (F := F) (e := .f32) A ![row, k0_pay46] hr.2.2.2 x]
          ![loadIdx (F := F) (e := .f32) B ![bi, k0_pay43] hb.1 x, loadIdx (F := F) (e := .f32) B ![bi, k0_pay44] hb.2.1 x,
            loadIdx (F := F) (e := .f32) B ![bi, k0_pay45] hb.2.2.1 x, loadIdx (F := F) (e := .f32) B ![bi, k0_pay46] hb.2.2.2 x]) zeroF
      = entryAt (tileNo L) A B (idxAt (s := S160x20) ![row, col] h x) := by
  have hx := lane_lt x
  have h0 : (n + (x 0).val) / 20 < 160 := by omega
  have h1 : (n + (x 0).val) % 20 < 20 := by omega
  refine (lane_entry (tileNo_lt L) h0 h1 A B row bi blk x (hrow x) (hbi x) (hblk x) colVec (fun q => colVec_at q x) hr.at hb.at).trans ?_
  unfold entryAt
  congr 1
  · exact Fin.ext (by show _ = (row x).toNat; rw [hrow, BitVec.toNat_ofNat]; dsimp only; omega)
  · exact Fin.ext (by show _ = (col x).toNat; rw [hcol, BitVec.toNat_ofNat]; dsimp only; omega)

set_option maxHeartbeats 1000000 in
theorem trip (k : Fin (k0_t1_loop L).trips) :
    inv tA tB d L k.val ⟨⟩ ⊢ wp frame (wpE (defs₀ (F := F)) 𝒱₀ (V d (cV L) (jV L)) none) Set.univ
      (k0_t1_body L aV (Memref.isWhole_whole _) bV (Memref.isWhole_whole _) oV (Memref.isWhole_whole _) sA (Memref.isWhole_whole _)
        sB (Memref.isWhole_whole _) sO (Memref.isWhole_whole _) cc0_scratch3 cc0_scratch4 cc0_scoped0 lanes k0_pay43 k0_pay44 k0_pay45 k0_pay46 (baseW L) k ⟨⟩)
      fun _ => inv tA tB d L (k.val + 1) ⟨⟩ := by
  have hkA := fA_lt L k
  have hkB := fB_lt L k
  have hk := trip_lt L k
  have c1 : k0_chk1 k0_pay43 k0_pay44 k0_pay45 k0_pay46 (k0_pay4 L lanes 0#32 1#32 k) :=
    inCols_of _ fun x => by have := hkA x; rw [rowA_at, BitVec.toNat_ofNat]; omega
  have c3 : k0_chk3 (k0_pay4 L lanes 0#32 1#32 k) (colA L k) :=
    inBand_of _ _ (fun x => by have := hkA x; rw [rowA_at, BitVec.toNat_ofNat]; omega) fun x => by rw [colA_at, BitVec.toNat_ofNat]; omega
  have eA : ∀ x, biA L k x = BitVec.ofNat 32 (fA k.val x / 20 / 20 * 20 + fA k.val x % 20) := fun x =>
    biA_at _ _ x (by have := hkA x; omega) (by omega) (rowA_at L k x) (colA_at L k x)
  have c2 : k0_chk2 k0_pay43 k0_pay44 k0_pay45 k0_pay46 (biA L k) :=
    inCols_of _ fun x => by have := mate_lt (hkA x); rw [eA, BitVec.toNat_ofNat]; omega
  have c4 : k0_chk4 k0_pay43 k0_pay44 k0_pay45 k0_pay46 (rowB L k) :=
    inCols_of _ fun x => by have := hkB x; rw [rowB_at, BitVec.toNat_ofNat]; omega
  have c6 : k0_chk6 (rowB L k) (colB L k) :=
    inBand_of _ _ (fun x => by have := hkB x; rw [rowB_at, BitVec.toNat_ofNat]; omega) fun x => by rw [colB_at, BitVec.toNat_ofNat]; omega
  have eB : ∀ x, biB L k x = BitVec.ofNat 32 (fB k.val x / 20 / 20 * 20 + fB k.val x % 20) := fun x =>
    biB_at _ _ x (by have := hkB x; omega) (by omega) (rowB_at L k x) (colB_at L k x)
  have c5 : k0_chk5 k0_pay43 k0_pay44 k0_pay45 k0_pay46 (biB L k) :=
    inCols_of _ fun x => by have := mate_lt (hkB x); rw [eB, BitVec.toNat_ofNat]; omega
  rw [trip_eq]; unfold inv tripProg
  iintro ⟨HA, HB, %f, %hf, HO⟩
  rw [wp_assume_of _ _ _ _ c1, wp_assume_of _ _ _ _ c3, wp_assume_of _ _ _ _ c2]
  iapply (wp_gathers d L); isplitl [HA]; · iexact HA
  isplitl [HB]; · iexact HB
  iintro ⟨HA, HB⟩
  iapply (wp_storeO d L); isplitl [HO]; · iexact HO
  iintro HO
  rw [wp_assume_of _ _ _ _ c4, wp_assume_of _ _ _ _ c6, wp_assume_of _ _ _ _ c5]
  iapply (wp_gathers d L); isplitl [HA]; · iexact HA
  isplitl [HB]; · iexact HB
  iintro ⟨HA, HB⟩
  iapply (wp_storeO d L); isplitl [HO]; · iexact HO
  iintro HO
  rw [wp_ret]; imodintro
  isplitl [HA]; · iexact HA
  isplitl [HB]; · iexact HB
  iexists _
  isplitr
  swap; · iexact HO
  ipureintro
  refine done_step (n := 32 * k.val + 16) (done_step (n := 32 * k.val) hf _ _ (fun x => rowA_at L k x) (fun x => colA_at L k x) (by omega) c3 _ fun x => ?_)
    _ _ (fun x => rowB_at L k x) (fun x => colB_at L k x) (by omega) c6 _ fun x => ?_
  · exact half_value L (n := 32 * k.val) (by omega) (slab (wL L) (tA d)) (slab (wL L) (tB d)) (k0_pay4 L lanes 0#32 1#32 k) (colA L k) (biA L k) (blkA L k)
      (fun x => rowA_at L k x) (fun x => colA_at L k x) eA (fun x => blkA_at L _ x (show fA k.val x / 20 < 160 by have := hkA x; omega) (rowA_at L k x)) c1 c2 c3 x
  · exact half_value L (n := 32 * k.val + 16) (by omega) (slab (wL L) (tA d)) (slab (wL L) (tB d)) (rowB L k) (colB L k) (biB L k) (blkB L k)
      (fun x => rowB_at L k x) (fun x => colB_at L k x) eB (fun x => blkB_at L _ x (show fB k.val x / 20 < 160 by have := hkB x; omega) (rowB_at L k x)) c4 c5 c6 x

/-! ## What the copies carry -/

/-- The place in a table of element `x` of the tile's rows. -/
theorem emb_aRowK (x : S160x4.Idx) : (arowK L).emb x = ix2 (gRow (wL L) (x 0)) (x 1) := by
  funext a
  match a with
  | 0 => exact Fin.ext (by show k0_off1 L 0 + 1 * (x 0).val = _; rw [k0_off1_eq]; simp [gRow, ix2, tileNo]; omega)
  | 1 => exact Fin.ext (by show k0_off1 L 1 + 1 * (x 1).val = _; rw [k0_off1_eq]; simp [ix2])
theorem emb_oRowK (x : S160x20.Idx) : (orowK L).emb x = ix2 (gRow (wL L) (x 0)) (x 1) := by
  funext a
  match a with
  | 0 => exact Fin.ext (by show k0_off2 L 0 + 1 * (x 0).val = _; rw [k0_off2_eq]; simp [gRow, ix2, tileNo]; omega)
  | 1 => exact Fin.ext (by show k0_off2 L 1 + 1 * (x 1).val = _; rw [k0_off2_eq]; simp [ix2])

theorem read_aRowK (A : S5120x4.Idx → F .f32) : (aRowK L).view.read (Elt F) A = slab (wL L) A :=
  funext fun x => congrArg A (emb_aRowK L x)
theorem read_bRowK (A : S5120x4.Idx → F .f32) : (bRowK L).view.read (Elt F) A = slab (wL L) A :=
  funext fun x => congrArg A (emb_aRowK L x)

/-- The scratch tables after the fetches: the tile's rows. -/
theorem fetched_sA (g : S160x4.Idx → F .f32) (A : S5120x4.Idx → F .f32) :
    sA.view.write (Elt F) g ((aRowK L).view.read (Elt F) A) Finset.univ = slab (wL L) A :=
  (View.write_whole_univ (Val := Elt F) (cc0_scratch0 : Ref sig .scVector) g _).trans (read_aRowK L A)
theorem fetched_sB (g : S160x4.Idx → F .f32) (A : S5120x4.Idx → F .f32) :
    sB.view.write (Elt F) g ((bRowK L).view.read (Elt F) A) Finset.univ = slab (wL L) A :=
  (View.write_whole_univ (Val := Elt F) (cc0_scratch1 : Ref sig .scVector) g _).trans (read_bRowK L A)

/-- The band's rows after the write-out hold what the tile computed: its entries. -/
theorem tileOK_of_done (A B : S5120x4.Idx → F .f32) (f : S160x20.Idx → F .f32) (g : S5120x20.Idx → F .f32)
    (hf : Done (wL L).val (slab (wL L) A) (slab (wL L) B) (32 * (k0_t1_loop L).trips) f) :
    TileOK A B (wL L) ((oRowK L).view.writes (Elt F) g [⟨Rect.whole S160x20, f⟩]) := by
  intro r j hr
  have hx : ((oRowK L).view.slice (Rect.whole S160x20)).emb (ix2 r j) = ix2 (gRow (wL L) r) j :=
    (congrArg (oRowK L).view.emb (funext fun a => Fin.ext (by show 0 + 1 * (ix2 r j a).val = (ix2 r j a).val; omega))).trans (emb_oRowK L (ix2 r j))
  rw [View.writes_singleton, ← hx]
  refine (View.write_emb_of_mem (Val := Elt F) (v := (oRowK L).view.slice (Rect.whole S160x20)) g f (Finset.mem_univ (ix2 r j))).trans ?_
  refine hf (ix2 r j) ?_
  show r.val * 20 + j.val < _
  have hw : 160 * (2 * (L 1).val + (L 0).val) + r.val < 5000 := hr
  rw [trips_eq]
  split <;> omega

/-! ## The task -/

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped0.sem)

/-- The task's three semaphores among the subcore's own, -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

/-- and its three scratch buffers, each at some contents. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have hm (b : Ref sig .scVector) (hb : ((Proc.scVector (cV L) (jV L)).devRef b).owner = _) := SparseCore.Cfg.mem_ownRefs_of_owner (p := Proc.scVector (cV L) (jV L))
    (b := (Proc.scVector (cV L) (jV L)).devRef b) hb
  have ne {b c : Ref sig .scVector} (h : b ≠ c) : (Proc.scVector (cV L) (jV L)).devRef b ≠ (Proc.scVector (cV L) (jV L)).devRef c :=
    fun e => h (Proc.devRef_injective _ e)
  unfold SparseCore.Cfg.ownBufs
  refine (SparseCore.bigSep_erase' (hm cc0_scratch0 rfl)).trans ?_
  rw [SparseCore.bigSep_erase' (Finset.mem_erase.mpr ⟨ne (show cc0_scratch1 ≠ cc0_scratch0 by decide), hm cc0_scratch1 rfl⟩),
    SparseCore.bigSep_erase' (Finset.mem_erase.mpr ⟨ne (show cc0_scratch2 ≠ cc0_scratch1 by decide),
      Finset.mem_erase.mpr ⟨ne (show cc0_scratch2 ≠ cc0_scratch0 by decide), hm cc0_scratch2 rfl⟩⟩)]

set_option maxHeartbeats 4000000 in
/-- The tile's task: both fetches and their waits, the loop by `inv`, the remainder loop of no trips, the write-out. -/
theorem tile_body (hF : (K (F := F)).Facts) (O : CellTallies nD τ sig (HIx 1)) (W : Waits sig (HIx 1)) (hO : ∀ g, O g none = 0) :
    iprop(levAts (K (F := F)).L (K (F := F)).lev ∗ emp ∗ goes tA tB m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_band_body L aV (Memref.isWhole_whole _) bV (Memref.isWhole_whole _) oV (Memref.isWhole_whole _) sA (Memref.isWhole_whole _)
            sB (Memref.isWhole_whole _) sO (Memref.isWhole_whole _) cc0_scratch3 cc0_scratch4 cc0_scoped0)
          fun _ => iprop(comes tA tB d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_band_body_eq_skeleton]; unfold cc0__sc_band_body_skel
  simp only [k0_part13_eq_skeleton]; unfold k0_part13_skel
  rw [(K (F := F)).scopedBufs_V hF d (cV L) (jV L), SparseCore.Cfg.scopedSems0_V (Val := Elt F) d (cV L) (jV L), ownSems0_V, ownBufs_V]
  unfold goes comes
  iintro ⟨#Hlv, -, ⟨Ha, Hb, Ho⟩, ⟨⟨%fa, HA⟩, ⟨%fb, HB⟩, ⟨%fo, HC⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ha' := (Entails.of_eq (pts_aRowK (F := F) d L _).symm) $$ Ha
  ihave Hb' := (Entails.of_eq (pts_bRowK (F := F) d L _).symm) $$ Hb
  ihave Ho' := (Entails.of_eq (pts_oRowK (F := F) d L _).symm) $$ Ho
  ihave HA' := (Entails.of_eq (show ((V d (cV L) (jV L)).loc cc0_scratch0 ↦{fullShare} fa : sProp 𝕄) = (sA.view.loc (V d (cV L) (jV L)) ↦{fullShare} fa) from rfl)) $$ HA
  ihave HB' := (Entails.of_eq (show ((V d (cV L) (jV L)).loc cc0_scratch1 ↦{fullShare} fb : sProp 𝕄) = (sB.view.loc (V d (cV L) (jV L)) ↦{fullShare} fb) from rfl)) $$ HB
  ihave HC' := (Entails.of_eq (show ((V d (cV L) (jV L)).loc cc0_scratch2 ↦{fullShare} fo : sProp 𝕄) = (sO.view.loc (V d (cV L) (jV L)) ↦{fullShare} fo) from rfl)) $$ HC
  sl_exec
  sl_for (inv tA tB d L) $$ [HA' HB' HC']
  case region =>
    intro k _
    exact trip tA tB d L k
  · unfold inv
    unfold tile_body.sl.dma0 tile_body.sl.dma0_1
    isplitl [HA']
    · iapply (Entails.of_eq (congrArg (fun g : Buf (Elt F) (sA.view.loc (V d (cV L) (jV L))) => (sA.view.loc (V d (cV L) (jV L)) ↦{fullShare} g : sProp 𝕄))
        (fetched_sA L fa (tA d)))) $$ HA'
    isplitl [HB']
    · iapply (Entails.of_eq (congrArg (fun g : Buf (Elt F) (sB.view.loc (V d (cV L) (jV L))) => (sB.view.loc (V d (cV L) (jV L)) ↦{fullShare} g : sProp 𝕄))
        (fetched_sB L fb (tB d)))) $$ HB'
    iexists fo
    isplitr; · ipureintro; exact done_zero _ _ _ _
    iexact HC'
  iintro %_ HI
  unfold inv
  icases HI with ⟨HA, HB, %f, %hf, HC⟩
  sl_for (fun _ _ => iprop(emp)) $$ []
  case region =>
    intro k _
    exact absurd k.isLt (Nat.not_lt.2 ((k0_t2_abs L).2.1.trans (Nat.zero_le _)))
  · iempintro
  iintro %_ -
  sl_exec
  sl_step
  isplitl [Ha' Hb' Ho']
  · isplitl [Ha']; · iapply (Entails.of_eq (pts_aRowK (F := F) d L _)); iexact Ha'
    isplitl [Hb']; · iapply (Entails.of_eq (pts_bRowK (F := F) d L _)); iexact Hb'
    iexists _
    isplitr
    swap; · iapply (Entails.of_eq (pts_oRowK (F := F) d L _)); iexact Ho'
    ipureintro
    unfold tile_body.sl.dma0_2
    exact tileOK_of_done L _ _ f _ hf
  isplitl [HA HB HC Hbufs]
  · isplitl [HA]; · iexists _; iexact HA
    isplitl [HB]; · iexists _; iexact HB
    isplitl [HC]; · iexists _; iexact HC
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The launch's obligation -/

/-- The coordinates of a tile by its SparseCore and its subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_band_body (coordsV c s)
          aV (Memref.isWhole_whole _) bV (Memref.isWhole_whole _) oV (Memref.isWhole_whole _) sA (Memref.isWhole_whole _)
          sB (Memref.isWhole_whole _) sO (Memref.isWhole_whole _) cc0_scratch3 cc0_scratch4 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
/-- Every tile's task meets its part of the call. -/
theorem tileObl (tA tB : Dev nD → S5120x4.Idx → F .f32) (m : (ℓ : Loc nD τ sig) → Buf (Elt F) ℓ) (hF : (K (F := F)).Facts) :
    (K (F := F)).TileObl (D (F := F)) 𝒱 (P tA tB m) v₀ 0 := by
  intro d c i O W hO _ _
  simp only [show (P (F := F) tA tB m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tA tB m d (coordsV ⟨_, hci.1⟩ ⟨_, hci.2⟩) hF O W hO).trans (wp_mono frame _ _ fun _ => obl_post)

end Cert.Proof.Band

end
-- ==== Proof.Launch.lean ====
/-
  The whole kernel: the host's tables, the SparseCores' band, the TensorCore's spread of it, from launch to end.
-/
module

public import proofs.«01_k».proof.Proof.Host
public import proofs.«01_k».proof.Proof.Rows
public import proofs.«01_k».proof.Proof.Tile

@[expose] public section

noncomputable section

namespace Cert.Proof.Band

open Cert.KernelIdeal Cert.KernelIdeal.Gen
open Idealize.ShloMosaic Idealize.ShloMosaic.Routing Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The ghost state at launch -/

/-- Where the pipeline's rounds live. -/
abbrev EP : Emb UP (MT nD τ sig (HIx 1) (Elt F) ℕ UU ℕ) := (Emb.inl : Emb UP (UP × Counters)).trans embR

theorem pinned_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pinned_inj) (Pipeline.launchToks (Pipeline.pin (pcfgs (F := F)) adm) pinned_inj), 1))

/-- The TensorCore's share of it on device `d`: the pipeline's cells and tokens. -/
def G (d : Dev nD) : sProp 𝕄 :=
  iprop(Pipeline.cellsGhost (Pipeline.pin (pcfgs (F := F)) adm) EP 0 d ∗ Pipeline.toksInit (Pipeline.pin (pcfgs (F := F)) adm) EP 0 d)

section Launch

variable (tA tB : Dev nD → S5120x4.Idx → F .f32) (m : (ℓ : Loc nD τ sig) → Buf (Elt F) ℓ)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P tA tB m).x q thr) := by
  unfold u₀
  iintro Hu
  ihave H := (ownU_pair (initOf (K (F := F)).hsCells (K (F := F)).hsToks) _) $$ Hu
  icases H with ⟨HH, HR⟩
  ihave H := (own_pair_emb (embR : Emb (UP × Counters) (MT nD τ sig (HIx 1) (Elt F) ℕ UU ℕ)) _ _) $$ HR
  icases H with ⟨HP, -⟩
  imod (Pipeline.fund_ghost (Pipeline.pin (pcfgs (F := F)) adm) (EP (F := F)) pinned_inj) $$ HP with ⟨Hc, Ht⟩
  imodintro
  isplitl [HH]; · iexact HH
  isplitl [Hc Ht]
  · rw [show (bigSep Finset.univ fun c : Dev nD => bigSep Finset.univ fun p : Fin 1 =>
          (Pipeline.cellsGhost (Pipeline.pin (pcfgs (F := F)) adm) EP p c : sProp 𝕄))
        = bigSep Finset.univ fun c : Dev nD => Pipeline.cellsGhost (Pipeline.pin (pcfgs (F := F)) adm) EP 0 c from
        bigSep_congr fun _ _ => bigSep_univ_of_subsingleton (0 : Fin 1),
      show (bigSep Finset.univ fun c : Dev nD => bigSep Finset.univ fun p : Fin 1 =>
          (Pipeline.toksInit (Pipeline.pin (pcfgs (F := F)) adm) EP p c : sProp 𝕄))
        = bigSep Finset.univ fun c : Dev nD => Pipeline.toksInit (Pipeline.pin (pcfgs (F := F)) adm) EP 0 c from
        bigSep_congr fun _ _ => bigSep_univ_of_subsingleton (0 : Fin 1)]
    unfold G
    rw [bigSep_sep']
    exact BI.Entails.refl _
  rw [show (bigSep Finset.univ fun thr : Thread nD τ => bigSep Finset.univ fun q : Fin 1 => (P (F := F) tA tB m).x q thr)
      = bigSep Finset.univ fun _ => iprop(emp) from bigSep_congr fun _ _ => bigSep_univ_of_subsingleton (0 : Fin 1),
    show (bigSep Finset.univ fun _ : Thread nD τ => iprop(emp)) = (iprop(emp) : sProp 𝕄) from bigSep_emp_const _]
  iempintro

end Launch

/-! ## The TensorCore's region among the thread's buffers -/

section Step

variable [∀ e, Nonempty (Elt F e)] (V : Dev nD → Valuation τ sig (Elt F))

theorem arrays_in : Pipeline.arrRefs (τ := τ) spec1 ⊆ Pipeline.ucRefs τ sig := Pipeline.arrRefs_sub_ucRefs spec1 (by decide)

set_option backward.isDefEq.respectTransparency.types false in
/-- What the region starts from, -/
theorem enter (d : Dev nD) :
    iprop(StableHlo.held (d.tc : Thread nD τ) (Pipeline.ucRefs τ sig) (V d) ∗ ((∃ Wd, owes (d : Thread nD τ) 0 Wd) ∗ emp ∗ emp))
      ⊢ (region V (Pipeline.ucRefs τ sig) fun _ => iprop(emp)).pre d := by
  unfold region
  exact Pipeline.RegionSeg.ofHeldIn_pre (D := fun _ => 0) (W := V) (X := fun _ => iprop(emp)) (Y := fun _ => iprop(emp)) (R := fun _ => iprop(emp)) arrays_in d

set_option backward.isDefEq.respectTransparency.types false in
/-- and what it ends with. -/
theorem leave (d : Dev nD) :
    (region V (Pipeline.ucRefs τ sig) fun _ => iprop(emp)).post d
      ⊢ iprop(StableHlo.held (d.tc : Thread nD τ) (Pipeline.ucRefs τ sig) (Pipeline.afterRegion (dat V d) (V d))
        ∗ ((∃ Wd, owes (d : Thread nD τ) 0 Wd) ∗ emp ∗ emp)) := by
  unfold region
  exact Pipeline.RegionSeg.ofHeldIn_post (D := fun _ => 0) (W := V) (X := fun _ => iprop(emp)) (Y := fun _ => iprop(emp)) (R := fun _ => iprop(emp)) arrays_in d

/-- @main's call of the region, as the program the launch lifts. -/
abbrev call : Prog (TpuEff nD τ sig (Elt F) (ΛP (F := F)) .tc) PUnit := .op (.customCall (Pipeline.entry 0) ()) fun x => .ret x

theorem inner_step (d : Dev nD) {Q : PUnit → sProp 𝕄} :
    iprop(((boundary (d.tc : Thread nD τ) ∗ StableHlo.held (d.tc : Thread nD τ) (Pipeline.ucRefs τ sig) (Pipeline.afterRegion (dat V d) (V d))
          ∗ ∃ Wd, owes (d : Thread nD τ) 0 Wd) -∗ Q ⟨⟩)
        ∗ boundary (d.tc : Thread nD τ) ∗ StableHlo.held (d.tc : Thread nD τ) (Pipeline.ucRefs τ sig) (V d)
        ∗ (∃ Wd, owes (d : Thread nD τ) 0 Wd) ∗ levAts (K (F := F)).L (K (F := F)).lev ∗ G d)
      ⊢ wp frame (wpE (D (F := F)) 𝒱 (d.tc : Thread nD τ) none) Set.univ (call (F := F)) Q := by
  unfold G
  refine BI.Entails.trans ?_ (Pipeline.RegionSeg.wp (pcfgs (F := F)) adm (pdats V) none pinned_inj EP defs₀ 𝒱₀ (K (F := F)).L (K (F := F)).lev
    (region V (Pipeline.ucRefs τ sig) fun _ => iprop(emp)) d none (fun u hu => nomatch hu) (fun x => .ret x) Q)
  show (_ : sProp 𝕄) ⊢ _
  iintro ⟨Hk, Hb, Hh, HO, Hlev, Hc, Ht⟩
  isplitl [Hk]
  · iintro ⟨Hb, Hpost⟩
    ihave H := (leave V d) $$ Hpost
    icases H with ⟨Hh, HO, -, -⟩
    rw [wp_ret]
    imodintro
    iapply Hk
    isplitl [Hb]; · iexact Hb
    isplitl [Hh]; · iexact Hh
    iexact HO
  isplitl [Hb]; · iexact Hb
  isplitl [Hh HO]
  · iapply (enter V d)
    isplitl [Hh]; · iexact Hh
    isplitl [HO]; · iexact HO
    isplitr <;> iempintro
  isplitl [Hlev]; · iexact Hlev
  isplitl [Hc] <;> iassumption

theorem step (d : Dev nD) {Q : PUnit → sProp 𝕄} :
    iprop(((boundary (d.tc : Thread nD τ) ∗ StableHlo.held (d.tc : Thread nD τ) (Pipeline.ucRefs τ sig) (Pipeline.afterRegion (dat V d) (V d))
          ∗ ∃ Wd, owes (d : Thread nD τ) 0 Wd) -∗ Q ⟨⟩)
        ∗ boundary (d.tc : Thread nD τ) ∗ StableHlo.held (d.tc : Thread nD τ) (Pipeline.ucRefs τ sig) (V d)
        ∗ (∃ Wd, owes (d : Thread nD τ) 0 Wd) ∗ levAts (K (F := F)).L (K (F := F)).lev ∗ G d)
      ⊢ wp frame (wpE ((K (F := F)).defs (D (F := F))) 𝒱 (d.tc : Thread nD τ) none) Set.univ
          (Prog.lift (.customCall (SparseCore.inner (Pipeline.entry 0)) ())) Q :=
  (inner_step V d).trans ((K (F := F)).wp_liftProg (D (F := F)) 𝒱 (d.tc : Thread nD τ) Set.univ none (call (F := F)) Q)

end Step

end Cert.Proof.Band

end
-- ==== Proof.Main.lean ====
/-
  @main on a device's TensorCore, and the program's run: on every device the input is unchanged and the result is the
  spread of a band that holds the entries of `Elem.lean`.
-/
module

public import proofs.«01_k».proof.Proof.Launch

@[expose] public section

noncomputable section

namespace Cert.Proof.Band

open Cert.KernelIdeal Cert.KernelIdeal.Gen
open Idealize.ShloMosaic Idealize.ShloMosaic.Routing Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

abbrev inLoc (d : Dev nD) : Loc nD τ sig := (SparseCore.T d).loc main_arg0
abbrev outLoc (d : Dev nD) : Loc nD τ sig := (SparseCore.T d).loc main_v8

/-! ## What the buffers hold, stage by stage -/

/-- The two tables of a launch memory. -/
def tabA (d : Dev nD) : S5120x4.Idx → F .f32 := padded (rollOne (m (inLoc d)))
def tabB (d : Dev nD) : S5120x4.Idx → F .f32 := padded (rollTwo (m (inLoc d)))

/-- After the host's operations, -/
def V1 (d : Dev nD) : Valuation τ sig (Elt F) := StableHlo.after ahead fun b => m (d, b)
/-- after the SparseCores' call, which left the band at `f`, -/
def V2 (d : Dev nD) (f : S5120x20.Idx → F .f32) : Valuation τ sig (Elt F) :=
  Function.update (V1 m d) (Proc.devRef .tc main_v6) f
/-- after the TensorCore's kernel, -/
def V3 (d : Dev nD) (f : S5120x20.Idx → F .f32) : Valuation τ sig (Elt F) :=
  Pipeline.afterRegion (dat (fun _ => V2 m d f) d) (V2 m d f)
/-- and at the end. -/
def V4 (d : Dev nD) (f : S5120x20.Idx → F .f32) : Valuation τ sig (Elt F) := (behind (F := F)).result (V3 m d f)

theorem V1_a (d : Dev nD) : V1 m d (Proc.devRef .tc main_v4) = tabA m d := ahead_a _
theorem V1_b (d : Dev nD) : V1 m d (Proc.devRef .tc main_v5) = tabB m d := ahead_b _
theorem V1_o (d : Dev nD) : V1 m d (Proc.devRef .tc main_v6) = m (oLoc d) := ahead_band _

theorem V2_o (d : Dev nD) (f) : V2 m d f (Proc.devRef .tc main_v6) = f := by unfold V2; exact Function.update_self ..
theorem V2_of_ne (d : Dev nD) (f) {b : DevRef τ sig} (h : b ≠ Proc.devRef .tc main_v6) : V2 m d f b = V1 m d b := by
  unfold V2; exact Function.update_of_ne h ..

theorem V4_arg (d : Dev nD) (f) : V4 m d f (Proc.devRef .tc main_arg0) = m (inLoc d) := by
  unfold V4
  rw [(behind (F := F)).result_of_not_mem _ (show Proc.devRef .tc main_arg0 ∉ ({Proc.devRef .tc main_v8} : Finset (DevRef τ sig)) by decide)]
  unfold V3
  rw [Pipeline.afterRegion_of_not_arr _ _ (b := main_arg0) (by decide), V2_of_ne m d f (by decide)]
  exact ahead_arg _

theorem V4_out (d : Dev nD) (f) :
    V4 m d f (Proc.devRef .tc main_v8) = (shapeCast S1x5000x5000 (spreadAll f) shapeCasts_S5000x5000_S1x5000x5000 : S1x5000x5000.Idx → F .f32) := by
  have h : V3 m d f (Proc.devRef .tc main_v7) = spreadAll f := by
    unfold V3
    refine (Pipeline.afterRegion_arr (dat (fun _ => V2 m d f) d) (V2 m d f) (by decide) (1 : Fin 2)).trans ?_
    rw [final]
    show spreadAll (V2 m d f (Proc.devRef .tc main_v6)) = _
    rw [V2_o]
  unfold V4
  after_results_simp
  rw [h]
  rfl

/-! ## The three arrays of the call, out of the buffers held -/

abbrev three : Finset (DevRef τ sig) := {Proc.devRef .tc main_v4, Proc.devRef .tc main_v5, Proc.devRef .tc main_v6}

theorem three_in : three ⊆ Pipeline.ucRefs τ sig := by
  intro b hb
  simp only [three, Finset.mem_insert, Finset.mem_singleton] at hb
  rcases hb with rfl | rfl | rfl <;>
    exact Finset.mem_filter.mpr ⟨StableHlo.devRef_mem_tcRefs _, by decide⟩

theorem held_three (d : Dev nD) (V : Valuation τ sig (Elt F)) :
    (StableHlo.held (d.tc : Thread nD τ) (Pipeline.ucRefs τ sig) V : sProp 𝕄)
      = iprop(((aLoc d ↦{fullShare} V (Proc.devRef .tc main_v4)) ∗ (bLoc d ↦{fullShare} V (Proc.devRef .tc main_v5))
          ∗ oLoc d ↦{fullShare} V (Proc.devRef .tc main_v6))
        ∗ StableHlo.held (d.tc : Thread nD τ) (Pipeline.ucRefs τ sig \ three) V) := by
  rw [StableHlo.held_sub_split (d.tc : Thread nD τ) three_in V]
  congr 1
  unfold StableHlo.held three
  rw [SparseCore.bigSep_insert' (by decide), SparseCore.bigSep_insert' (by decide), bigSep_singleton]

/-- The buffers the claim reads, out of the buffers held. -/
abbrev ends : Finset (DevRef τ sig) := {Proc.devRef .tc main_arg0, Proc.devRef .tc main_v8}

theorem ends_in : ends ⊆ Pipeline.ucRefs τ sig := by
  intro b hb
  simp only [ends, Finset.mem_insert, Finset.mem_singleton] at hb
  rcases hb with rfl | rfl <;>
    exact Finset.mem_filter.mpr ⟨StableHlo.devRef_mem_tcRefs _, by decide⟩

theorem held_ends (d : Dev nD) (V : Valuation τ sig (Elt F)) :
    (StableHlo.held (d.tc : Thread nD τ) (Pipeline.ucRefs τ sig) V : sProp 𝕄)
      = iprop(((inLoc d ↦{fullShare} V (Proc.devRef .tc main_arg0)) ∗ outLoc d ↦{fullShare} V (Proc.devRef .tc main_v8))
        ∗ StableHlo.held (d.tc : Thread nD τ) (Pipeline.ucRefs τ sig \ ends) V) := by
  rw [StableHlo.held_sub_split (d.tc : Thread nD τ) ends_in V]
  congr 1
  unfold StableHlo.held ends
  rw [SparseCore.bigSep_insert' (by decide), bigSep_singleton]

theorem held_ahead (d : Dev nD) :
    (StableHlo.held (d.tc : Thread nD τ) (Pipeline.ucRefs τ sig) (StableHlo.after ahead fun b => m (d, b)) : sProp 𝕄)
      = iprop(((aLoc d ↦{fullShare} (tabA m d : Buf (Elt F) (aLoc d))) ∗ (bLoc d ↦{fullShare} (tabB m d : Buf (Elt F) (bLoc d)))
          ∗ oLoc d ↦{fullShare} m (oLoc d))
        ∗ StableHlo.held (d.tc : Thread nD τ) (Pipeline.ucRefs τ sig \ three) (V1 m d)) := by
  rw [show (StableHlo.after ahead fun b => m (d, b)) = V1 m d from rfl, held_three d (V1 m d), V1_a, V1_b, V1_o]

theorem held_behind (d : Dev nD) (f) :
    (StableHlo.held (d.tc : Thread nD τ) (Pipeline.ucRefs τ sig) ((behind (F := F)).result (V3 m d f)) : sProp 𝕄)
      = iprop(((inLoc d ↦{fullShare} m (inLoc d))
          ∗ outLoc d ↦{fullShare} (shapeCast S1x5000x5000 (spreadAll f) shapeCasts_S5000x5000_S1x5000x5000 : S1x5000x5000.Idx → F .f32))
        ∗ StableHlo.held (d.tc : Thread nD τ) (Pipeline.ucRefs τ sig \ ends) (V4 m d f)) := by
  rw [show (behind (F := F)).result (V3 m d f) = V4 m d f from rfl, held_ends d (V4 m d f), V4_arg, V4_out]

theorem held_between (d : Dev nD) (f) :
    (StableHlo.held (d.tc : Thread nD τ) (Pipeline.ucRefs τ sig) (V2 m d f) : sProp 𝕄)
      = iprop(((aLoc d ↦{fullShare} (tabA m d : Buf (Elt F) (aLoc d))) ∗ (bLoc d ↦{fullShare} (tabB m d : Buf (Elt F) (bLoc d)))
          ∗ oLoc d ↦{fullShare} (f : Buf (Elt F) (oLoc d)))
        ∗ StableHlo.held (d.tc : Thread nD τ) (Pipeline.ucRefs τ sig \ three) (V1 m d)) := by
  rw [held_three d (V2 m d f), V2_o, V2_of_ne m d f (b := Proc.devRef .tc main_v4) (by decide),
    V2_of_ne m d f (b := Proc.devRef .tc main_v5) (by decide), V1_a, V1_b,
    StableHlo.held_congr (d.tc : Thread nD τ) (V := V2 m d f) (V' := V1 m d) (S := Pipeline.ucRefs τ sig \ three) fun b hb =>
      V2_of_ne m d f fun e => (Finset.mem_sdiff.mp hb).2 (by subst e; decide)]

theorem behind_sub : (behind (F := F)).bufs ⊆ Pipeline.ucRefs τ sig :=
  Pipeline.sub_ucRefs _ (StableHlo.reshape_bufs_sub ..)

/-! ## @main -/

/-- What the run leaves on device `d`. -/
def FIN (d : Dev nD) : sProp 𝕄 :=
  iprop(∃ f : S5120x20.Idx → F .f32, ⌜∀ w, TileOK (tabA m d) (tabB m d) w f⌝ ∗ (inLoc d ↦{fullShare} m (inLoc d))
    ∗ outLoc d ↦{fullShare} (shapeCast S1x5000x5000 (spreadAll f) shapeCasts_S5000x5000_S1x5000x5000 : S1x5000x5000.Idx → F .f32))

theorem waits_low (thr : Thread nD τ) (W : Waits sig (HIx 1)) : (K (F := F)).WBelow thr W (8 * 1) := fun p _ =>
  match p with
  | (_, none) => Nat.zero_le _
  | (s, some q) => (SparseCore.Cfg.lev_some_le (K (F := F)) (thr, s) q).trans (by omega)

theorem hmain (κ : GSem nD τ sig → ℕ) (d : Dev nD) :
    iprop((K (F := F)).ctx EH (P (tabA m) (tabB m) m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq]
  unfold SparseCore.Cfg.tcRes SparseCore.Cfg.tcEnd
  iintro ⟨#Hctx, Hst, ⟨Hb, Hbufs, Hts, -⟩, HG⟩
  ihave Hu := (Entails.of_eq (show unscopedBufs d (fun b => m ((SparseCore.T d).loc b))
      = (StableHlo.held (d.tc : Thread nD τ) (Pipeline.ucRefs τ sig) (fun b => m (d, b)) : sProp 𝕄) from
    Pipeline.unscopedBufs_held d (fun b => m (d, b)))) $$ Hbufs
  ihave #Hlev := (SparseCore.Cfg.ctx_levAts κ) $$ Hctx
  iapply (StableHlo.wp_seq 𝒱 none Set.univ d (Pipeline.ucRefs τ sig) _ ahead ahead_sub ahead_fresh (fun b => m (d, b))) $$ [Hb Hu]
  · isplitl [Hb] <;> iassumption
  iintro ⟨Hb, Hu⟩
  ihave H := (Entails.of_eq (held_ahead m d)) $$ Hu
  icases H with ⟨Habo, Hu⟩
  rw [wp_bind]
  iapply ((K (F := F)).wp_run (D (F := F)) 𝒱 (EH := EH) (P := P (tabA m) (tabB m) m) κ d 0)
  isplitr; · iexact Hctx
  isplitl [Hst]; · iexact Hst
  isplitl [Habo]
  · iapply (call_takes (tabA m) (tabB m) m d); iexact Habo
  iintro ⟨Hst, Hdn⟩
  ihave H := (call_gives (tabA m) (tabB m) m d) $$ Hdn
  icases H with ⟨Ha, Hbb, ⟨%f, %hf, Ho⟩⟩
  rw [wp_bind]
  unfold SparseCore.Cfg.tcSt
  icases Hst with ⟨⟨%W, -, HO⟩, Hrest⟩
  rw [show (K (F := F)).Otc d ((0 : Fin 1).val + 1) = 0 from (K (F := F)).Otc_end d (le_refl 1), show (K (F := F)).Otc d 1 = 0 from (K (F := F)).Otc_end d (le_refl 1)]
  iapply (step (F := F) (fun _ => V2 m d f) d)
  isplitl [Hts Hrest]
  · iintro ⟨Hb, Hh, ⟨%Wd, HO⟩⟩
    iapply (StableHlo.wp_hlo_within 𝒱 (d.tc : Thread nD τ) none Set.univ (op := behind) behind_sub (V := V3 m d f)) $$ [Hb Hh]
    · isplitl [Hb]; · iexact Hb
      iexact Hh
    iintro ⟨Hb, Hh⟩
    ihave H := (Entails.of_eq (held_behind m d f)) $$ Hh
    icases H with ⟨⟨Hi, Ho⟩, -⟩
    rw [wp_ret]
    imodintro
    isplitl [HO Hrest]
    · isplitl [HO]
      · iexists Wd
        isplitr; · ipureintro; exact waits_low (F := F) _ _
        iexact HO
      iexact Hrest
    isplitl [Hi Ho]
    · unfold FIN
      iexists f
      isplitr; · ipureintro; exact hf
      isplitl [Hi] <;> iassumption
    isplitl [Hb] <;> iassumption
  isplitl [Hb]; · iexact Hb
  isplitl [Ha Hbb Ho Hu]
  · iapply (Entails.of_eq (held_between m d f).symm)
    isplitl [Ha Hbb Ho]
    · isplitl [Ha]; · iexact Ha
      isplitl [Hbb]; · iexact Hbb
      iexact Ho
    iexact Hu
  isplitl [HO]
  · iexists W; iexact HO
  isplitr; · iexact Hlev
  iexact HG

def fq (d : Dev nD) (s' : Phys nD τ sig (Elt F)) : Prop :=
  s'.mem.mem (inLoc d) = m (inLoc d) ∧ ∃ f : S5120x20.Idx → F .f32, (∀ w, TileOK (tabA m d) (tabB m d) w f)
    ∧ s'.mem.mem (outLoc d) = (shapeCast S1x5000x5000 (spreadAll f) shapeCasts_S5000x5000_S1x5000x5000 : S1x5000x5000.Idx → F .f32)

set_option maxRecDepth 16384 in
theorem hfin (d : Dev nD) (s' : Phys nD τ sig (Elt F)) : iprop(FIN m d ∗ SI s') ⊢ (⌜fq m d s'⌝ : sProp 𝕄) := by
  unfold FIN
  iintro ⟨⟨%f, %hf, Hi, Ho⟩, HSI⟩
  ihave H := (persistent_entails_right (SI_pointsTo_agree (st := s') (ℓ := inLoc d) (I := Finset.univ) (q := fullShare) (f := m (inLoc d)))) $$ [HSI Hi]
  · isplitl [HSI] <;> iassumption
  icases H with ⟨%h1, HSI, -⟩
  ihave H := (SI_pointsTo_agree (st := s') (ℓ := outLoc d) (I := Finset.univ) (q := fullShare)
    (f := (shapeCast S1x5000x5000 (spreadAll f) shapeCasts_S5000x5000_S1x5000x5000 : S1x5000x5000.Idx → F .f32))) $$ [HSI Ho]
  · isplitl [HSI] <;> iassumption
  icases H with %h2
  ipureintro; exact ⟨funext fun i => h1 i (Finset.mem_univ i), f, hf, funext fun i => h2 i (Finset.mem_univ i)⟩

/-- The program's run. -/
theorem run_main : θ_run (Cert.KernelIdeal.defs (F := F)) (Cert.KernelIdeal.threads (F := F)) ⟨m, fun _ => 0, ρ⟩ fun r =>
    (∀ c : Dev nD, r.2.mem (inLoc c) = m (inLoc c) ∧ ∃ f : S5120x20.Idx → F .f32, (∀ w, TileOK (tabA m c) (tabB m c) w f)
      ∧ r.2.mem (outLoc c) = (shapeCast S1x5000x5000 (spreadAll f) shapeCasts_S5000x5000_S1x5000x5000 : S1x5000x5000.Idx → F .f32))
    ∧ r.2.sem = fun _ => 0 :=
  SparseCore.Cfg.θ_run_sc_quiescent (K := K (F := F)) (D := D (F := F)) (𝒱 := 𝒱) (EH := EH) (P := P (tabA m) (tabB m) m) (A := ∅) facts v₀
    (fun q hq => match q with | 0 => nomatch hq)
    (fun q _ => match q with | 0 => tileObl (tabA m) (tabB m) m facts)
    (fun q _ => match q with | 0 => SparseCore.Cfg.VecSplit.of_plain (vecSplit (tabA m) (tabB m) m))
    m ρ main (G (F := F)) (FIN m) (u₀ (F := F)) (sep_elim_left.trans (hu₀ (tabA m) (tabB m) m)) (hmain m ρ) (fq m) (hfin m) _ (fun _ h hz => ⟨h, hz⟩)

end Cert.Proof.Band

end
-- ==== Proof.Same.lean ====
/-
  The kernel and its idealization are one program, printed twice: same signature, same bodies, same threads.
-/
module

public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

attribute [local instance] Cert.Kernel.Gen.facts Cert.KernelIdeal.Gen.facts

theorem band : @Cert.Kernel.cc0__sc_band_body F _ _ = @Cert.KernelIdeal.cc0__sc_band_body F _ _ := rfl
theorem strips : @Cert.Kernel.cc1__tc_strip_kernel F _ _ = @Cert.KernelIdeal.cc1__tc_strip_kernel F _ _ := rfl

theorem bodies : @Cert.Kernel.defs₀ F _ _ = @Cert.KernelIdeal.defs₀ F _ _ := by
  funext p ℓ a
  match p, ℓ, a with
  | .tc, ⟨0, _⟩, _ => rfl
  | .tc, ⟨1, _⟩, (_, _) => rfl
  | .scScalar _, ⟨0, _⟩, _ => rfl
  | .scScalar _, ⟨1, _⟩, _ => rfl
  | .scVector _ _, ⟨0, _⟩, _ => rfl
  | .scVector _ _, ⟨1, _⟩, _ => rfl

theorem defs : @Cert.Kernel.defs F _ _ = @Cert.KernelIdeal.defs F _ _ := by
  unfold Cert.Kernel.defs Cert.KernelIdeal.defs
  exact congrArg (fun d => Cert.KernelIdeal.sc.defs (Pipeline.defs Cert.KernelIdeal.pcfgs d)) bodies

theorem threads : @Cert.Kernel.threads F _ _ = @Cert.KernelIdeal.threads F _ _ := rfl

end Cert.Proof.Same

end
-- ==== Proof.RefOps.lean ====
/-
  The reference's @main as lists of its operations, one list for each thing it computes.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-- Rows and columns side by side, as the scatter reads them. -/
def stacked (a b : S249x20x20x1.Idx → BitVec 32) : S249x20x20x2.Idx → BitVec 32 :=
  concatenate S249x20x20x2 3 [⟨S249x20x20x1, a⟩, ⟨S249x20x20x1, b⟩] concatenates_S249x20x20x1_S249x20x20x1_S249x20x20x2_d3

set_option maxHeartbeats 4000000

/-- The boxes of the frames 0 … 248 and of the frames 1 … 249, laid out for the pairs. -/
abbrev pairs : List (HloOp τ sig (Elt F)) :=
  [ unary main_arg0 main_v0 ((extractStridedSlice S249x20x4 ![0, 0, 0] · slices_S250x20x4_S249x20x4_0_0_0) : (⟨S250x20x4, .f32⟩ : BufTy).Contents (Elt F) → (⟨S249x20x4, .f32⟩ : BufTy).Contents (Elt F)),
    unary main_arg0 main_v1 ((extractStridedSlice S249x20x4 ![1, 0, 0] · slices_S250x20x4_S249x20x4_1_0_0) : (⟨S250x20x4, .f32⟩ : BufTy).Contents (Elt F) → (⟨S249x20x4, .f32⟩ : BufTy).Contents (Elt F)),
    unary main_v0 main_v2 (broadcastInDim S249x20x1x4 ![0, 1, 3] bcast_S249x20x4_S249x20x1x4_0_1_3 : (⟨S249x20x4, .f32⟩ : BufTy).Contents (Elt F) → (⟨S249x20x1x4, .f32⟩ : BufTy).Contents (Elt F)),
    unary main_v1 main_v3 (broadcastInDim S249x1x20x4 ![0, 2, 3] bcast_S249x20x4_S249x1x20x4_0_2_3 : (⟨S249x20x4, .f32⟩ : BufTy).Contents (Elt F) → (⟨S249x1x20x4, .f32⟩ : BufTy).Contents (Elt F)) ]

/-- The area of the boxes' intersection, for every pair. -/
abbrev crossing : List (HloOp τ sig (Elt F)) :=
  [ unary main_v2 main_v4 ((extractStridedSlice S249x20x1x1 ![0, 0, 0, 0] · slices_S249x20x1x4_S249x20x1x1_0_0_0_0) : (⟨S249x20x1x4, .f32⟩ : BufTy).Contents (Elt F) → (⟨S249x20x1x1, .f32⟩ : BufTy).Contents (Elt F)),
    reshape main_v4 main_v5 (rfl : (.f32 : EltTy) = .f32) shapeCasts_S249x20x1x1_S249x20x1,
    unary main_v3 main_v6 ((extractStridedSlice S249x1x20x1 ![0, 0, 0, 0] · slices_S249x1x20x4_S249x1x20x1_0_0_0_0) : (⟨S249x1x20x4, .f32⟩ : BufTy).Contents (Elt F) → (⟨S249x1x20x1, .f32⟩ : BufTy).Contents (Elt F)),
    reshape main_v6 main_v7 (rfl : (.f32 : EltTy) = .f32) shapeCasts_S249x1x20x1_S249x1x20,
    unary main_v5 main_v8 (broadcastInDim S249x20x20 ![0, 1, 2] bcast_S249x20x1_S249x20x20_0_1_2 : (⟨S249x20x1, .f32⟩ : BufTy).Contents (Elt F) → (⟨S249x20x20, .f32⟩ : BufTy).Contents (Elt F)),
    unary main_v7 main_v9 (broadcastInDim S249x20x20 ![0, 1, 2] bcast_S249x1x20_S249x20x20_0_1_2 : (⟨S249x1x20, .f32⟩ : BufTy).Contents (Elt F) → (⟨S249x20x20, .f32⟩ : BufTy).Contents (Elt F)),
    binary main_v8 main_v9 main_v10 (maximumf : (⟨S249x20x20, .f32⟩ : BufTy).Contents (Elt F) → (⟨S249x20x20, .f32⟩ : BufTy).Contents (Elt F) → (⟨S249x20x20, .f32⟩ : BufTy).Contents (Elt F)),
    unary main_v2 main_v11 ((extractStridedSlice S249x20x1x1 ![0, 0, 0, 2] · slices_S249x20x1x4_S249x20x1x1_0_0_0_2) : (⟨S249x20x1x4, .f32⟩ : BufTy).Contents (Elt F) → (⟨S249x20x1x1, .f32⟩ : BufTy).Contents (Elt F)),
    reshape main_v11 main_v12 (rfl : (.f32 : EltTy) = .f32) shapeCasts_S249x20x1x1_S249x20x1,
    unary main_v3 main_v13 ((extractStridedSlice S249x1x20x1 ![0, 0, 0, 2] · slices_S249x1x20x4_S249x1x20x1_0_0_0_2) : (⟨S249x1x20x4, .f32⟩ : BufTy).Contents (Elt F) → (⟨S249x1x20x1, .f32⟩ : BufTy).Contents (Elt F)),
    reshape main_v13 main_v14 (rfl : (.f32 : EltTy) = .f32) shapeCasts_S249x1x20x1_S249x1x20,
    unary main_v12 main_v15 (broadcastInDim S249x20x20 ![0, 1, 2] bcast_S249x20x1_S249x20x20_0_1_2 : (⟨S249x20x1, .f32⟩ : BufTy).Contents (Elt F) → (⟨S249x20x20, .f32⟩ : BufTy).Contents (Elt F)),
    unary main_v14 main_v16 (broadcastInDim S249x20x20 ![0, 1, 2] bcast_S249x1x20_S249x20x20_0_1_2 : (⟨S249x1x20, .f32⟩ : BufTy).Contents (Elt F) → (⟨S249x20x20, .f32⟩ : BufTy).Contents (Elt F)),
    binary main_v15 main_v16 main_v17 (minimumf : (⟨S249x20x20, .f32⟩ : BufTy).Contents (Elt F) → (⟨S249x20x20, .f32⟩ : BufTy).Contents (Elt F) → (⟨S249x20x20, .f32⟩ : BufTy).Contents (Elt F)),
    unary main_v2 main_v18 ((extractStridedSlice S249x20x1x1 ![0, 0, 0, 1] · slices_S249x20x1x4_S249x20x1x1_0_0_0_1) : (⟨S249x20x1x4, .f32⟩ : BufTy).Contents (Elt F) → (⟨S249x20x1x1, .f32⟩ : BufTy).Contents (Elt F)),
    reshape main_v18 main_v19 (rfl : (.f32 : EltTy) = .f32) shapeCasts_S249x20x1x1_S249x20x1,
    unary main_v3 main_v20 ((extractStridedSlice S249x1x20x1 ![0, 0, 0, 1] · slices_S249x1x20x4_S249x1x20x1_0_0_0_1) : (⟨S249x1x20x4, .f32⟩ : BufTy).Contents (Elt F) → (⟨S249x1x20x1, .f32⟩ : BufTy).Contents (Elt F)),
    reshape main_v20 main_v21 (rfl : (.f32 : EltTy) = .f32) shapeCasts_S249x1x20x1_S249x1x20,
    unary main_v19 main_v22 (broadcastInDim S249x20x20 ![0, 1, 2] bcast_S249x20x1_S249x20x20_0_1_2 : (⟨S249x20x1, .f32⟩ : BufTy).Contents (Elt F) → (⟨S249x20x20, .f32⟩ : BufTy).Contents (Elt F)),
    unary main_v21 main_v23 (broadcastInDim S249x20x20 ![0, 1, 2] bcast_S249x1x20_S249x20x20_0_1_2 : (⟨S249x1x20, .f32⟩ : BufTy).Contents (Elt F) → (⟨S249x20x20, .f32⟩ : BufTy).Contents (Elt F)),
    binary main_v22 main_v23 main_v24 (maximumf : (⟨S249x20x20, .f32⟩ : BufTy).Contents (Elt F) → (⟨S249x20x20, .f32⟩ : BufTy).Contents (Elt F) → (⟨S249x20x20, .f32⟩ : BufTy).Contents (Elt F)),
    unary main_v2 main_v25 ((extractStridedSlice S249x20x1x1 ![0, 0, 0, 3] · slices_S249x20x1x4_S249x20x1x1_0_0_0_3) : (⟨S249x20x1x4, .f32⟩ : BufTy).Contents (Elt F) → (⟨S249x20x1x1, .f32⟩ : BufTy).Contents (Elt F)),
    reshape main_v25 main_v26 (rfl : (.f32 : EltTy) = .f32) shapeCasts_S249x20x1x1_S249x20x1,
    unary main_v3 main_v27 ((extractStridedSlice S249x1x20x1 ![0, 0, 0, 3] · slices_S249x1x20x4_S249x1x20x1_0_0_0_3) : (⟨S249x1x20x4, .f32⟩ : BufTy).Contents (Elt F) → (⟨S249x1x20x1, .f32⟩ : BufTy).Contents (Elt F)),
    reshape main_v27 main_v28 (rfl : (.f32 : EltTy) = .f32) shapeCasts_S249x1x20x1_S249x1x20,
    unary main_v26 main_v29 (broadcastInDim S249x20x20 ![0, 1, 2] bcast_S249x20x1_S249x20x20_0_1_2 : (⟨S249x20x1, .f32⟩ : BufTy).Contents (Elt F) → (⟨S249x20x20, .f32⟩ : BufTy).Contents (Elt F)),
    unary main_v28 main_v30 (broadcastInDim S249x20x20 ![0, 1, 2] bcast_S249x1x20_S249x20x20_0_1_2 : (⟨S249x1x20, .f32⟩ : BufTy).Contents (Elt F) → (⟨S249x20x20, .f32⟩ : BufTy).Contents (Elt F)),
    binary main_v29 main_v30 main_v31 (minimumf : (⟨S249x20x20, .f32⟩ : BufTy).Contents (Elt F) → (⟨S249x20x20, .f32⟩ : BufTy).Contents (Elt F) → (⟨S249x20x20, .f32⟩ : BufTy).Contents (Elt F)),
    binary main_v17 main_v10 main_v32 (subf : (⟨S249x20x20, .f32⟩ : BufTy).Contents (Elt F) → (⟨S249x20x20, .f32⟩ : BufTy).Contents (Elt F) → (⟨S249x20x20, .f32⟩ : BufTy).Contents (Elt F)),
    nullary main_cst (constant S_ .f32 0x00000000#32),
    unary main_cst main_v33 (broadcastInDim S249x20x20 ![] bcast_S_S249x20x20 : (⟨S_, .f32⟩ : BufTy).Contents (Elt F) → (⟨S249x20x20, .f32⟩ : BufTy).Contents (Elt F)),
    binary main_v32 main_v33 main_v34 (maximumf : (⟨S249x20x20, .f32⟩ : BufTy).Contents (Elt F) → (⟨S249x20x20, .f32⟩ : BufTy).Contents (Elt F) → (⟨S249x20x20, .f32⟩ : BufTy).Contents (Elt F)),
    binary main_v31 main_v24 main_v35 (subf : (⟨S249x20x20, .f32⟩ : BufTy).Contents (Elt F) → (⟨S249x20x20, .f32⟩ : BufTy).Contents (Elt F) → (⟨S249x20x20, .f32⟩ : BufTy).Contents (Elt F)),
    nullary main_cst_0 (constant S_ .f32 0x00000000#32),
    unary main_cst_0 main_v36 (broadcastInDim S249x20x20 ![] bcast_S_S249x20x20 : (⟨S_, .f32⟩ : BufTy).Contents (Elt F) → (⟨S249x20x20, .f32⟩ : BufTy).Contents (Elt F)),
    binary main_v35 main_v36 main_v37 (maximumf : (⟨S249x20x20, .f32⟩ : BufTy).Contents (Elt F) → (⟨S249x20x20, .f32⟩ : BufTy).Contents (Elt F) → (⟨S249x20x20, .f32⟩ : BufTy).Contents (Elt F)),
    binary main_v34 main_v37 main_v38 (mulf : (⟨S249x20x20, .f32⟩ : BufTy).Contents (Elt F) → (⟨S249x20x20, .f32⟩ : BufTy).Contents (Elt F) → (⟨S249x20x20, .f32⟩ : BufTy).Contents (Elt F)) ]

/-- The area of the first box of a pair. -/
abbrev areasA : List (HloOp τ sig (Elt F)) :=
  [ unary main_v2 main_v39 ((extractStridedSlice S249x20x1x1 ![0, 0, 0, 2] · slices_S249x20x1x4_S249x20x1x1_0_0_0_2) : (⟨S249x20x1x4, .f32⟩ : BufTy).Contents (Elt F) → (⟨S249x20x1x1, .f32⟩ : BufTy).Contents (Elt F)),
    reshape main_v39 main_v40 (rfl : (.f32 : EltTy) = .f32) shapeCasts_S249x20x1x1_S249x20x1,
    unary main_v2 main_v41 ((extractStridedSlice S249x20x1x1 ![0, 0, 0, 0] · slices_S249x20x1x4_S249x20x1x1_0_0_0_0) : (⟨S249x20x1x4, .f32⟩ : BufTy).Contents (Elt F) → (⟨S249x20x1x1, .f32⟩ : BufTy).Contents (Elt F)),
    reshape main_v41 main_v42 (rfl : (.f32 : EltTy) = .f32) shapeCasts_S249x20x1x1_S249x20x1,
    binary main_v40 main_v42 main_v43 (subf : (⟨S249x20x1, .f32⟩ : BufTy).Contents (Elt F) → (⟨S249x20x1, .f32⟩ : BufTy).Contents (Elt F) → (⟨S249x20x1, .f32⟩ : BufTy).Contents (Elt F)),
    nullary main_cst_1 (constant S_ .f32 0x3F800000#32),
    unary main_cst_1 main_v44 (broadcastInDim S249x20x1 ![] bcast_S_S249x20x1 : (⟨S_, .f32⟩ : BufTy).Contents (Elt F) → (⟨S249x20x1, .f32⟩ : BufTy).Contents (Elt F)),
    binary main_v43 main_v44 main_v45 (addf : (⟨S249x20x1, .f32⟩ : BufTy).Contents (Elt F) → (⟨S249x20x1, .f32⟩ : BufTy).Contents (Elt F) → (⟨S249x20x1, .f32⟩ : BufTy).Contents (Elt F)),
    unary main_v2 main_v46 ((extractStridedSlice S249x20x1x1 ![0, 0, 0, 3] · slices_S249x20x1x4_S249x20x1x1_0_0_0_3) : (⟨S249x20x1x4, .f32⟩ : BufTy).Contents (Elt F) → (⟨S249x20x1x1, .f32⟩ : BufTy).Contents (Elt F)),
    reshape main_v46 main_v47 (rfl : (.f32 : EltTy) = .f32) shapeCasts_S249x20x1x1_S249x20x1,
    unary main_v2 main_v48 ((extractStridedSlice S249x20x1x1 ![0, 0, 0, 1] · slices_S249x20x1x4_S249x20x1x1_0_0_0_1) : (⟨S249x20x1x4, .f32⟩ : BufTy).Contents (Elt F) → (⟨S249x20x1x1, .f32⟩ : BufTy).Contents (Elt F)),
    reshape main_v48 main_v49 (rfl : (.f32 : EltTy) = .f32) shapeCasts_S249x20x1x1_S249x20x1,
    binary main_v47 main_v49 main_v50 (subf : (⟨S249x20x1, .f32⟩ : BufTy).Contents (Elt F) → (⟨S249x20x1, .f32⟩ : BufTy).Contents (Elt F) → (⟨S249x20x1, .f32⟩ : BufTy).Contents (Elt F)),
    nullary main_cst_2 (constant S_ .f32 0x3F800000#32),
    unary main_cst_2 main_v51 (broadcastInDim S249x20x1 ![] bcast_S_S249x20x1 : (⟨S_, .f32⟩ : BufTy).Contents (Elt F) → (⟨S249x20x1, .f32⟩ : BufTy).Contents (Elt F)),
    binary main_v50 main_v51 main_v52 (addf : (⟨S249x20x1, .f32⟩ : BufTy).Contents (Elt F) → (⟨S249x20x1, .f32⟩ : BufTy).Contents (Elt F) → (⟨S249x20x1, .f32⟩ : BufTy).Contents (Elt F)),
    binary main_v45 main_v52 main_v53 (mulf : (⟨S249x20x1, .f32⟩ : BufTy).Contents (Elt F) → (⟨S249x20x1, .f32⟩ : BufTy).Contents (Elt F) → (⟨S249x20x1, .f32⟩ : BufTy).Contents (Elt F)) ]

/-- The area of the second. -/
abbrev areasB : List (HloOp τ sig (Elt F)) :=
  [ unary main_v3 main_v54 ((extractStridedSlice S249x1x20x1 ![0, 0, 0, 2] · slices_S249x1x20x4_S249x1x20x1_0_0_0_2) : (⟨S249x1x20x4, .f32⟩ : BufTy).Contents (Elt F) → (⟨S249x1x20x1, .f32⟩ : BufTy).Contents (Elt F)),
    reshape main_v54 main_v55 (rfl : (.f32 : EltTy) = .f32) shapeCasts_S249x1x20x1_S249x1x20,
    unary main_v3 main_v56 ((extractStridedSlice S249x1x20x1 ![0, 0, 0, 0] · slices_S249x1x20x4_S249x1x20x1_0_0_0_0) : (⟨S249x1x20x4, .f32⟩ : BufTy).Contents (Elt F) → (⟨S249x1x20x1, .f32⟩ : BufTy).Contents (Elt F)),
    reshape main_v56 main_v57 (rfl : (.f32 : EltTy) = .f32) shapeCasts_S249x1x20x1_S249x1x20,
    binary main_v55 main_v57 main_v58 (subf : (⟨S249x1x20, .f32⟩ : BufTy).Contents (Elt F) → (⟨S249x1x20, .f32⟩ : BufTy).Contents (Elt F) → (⟨S249x1x20, .f32⟩ : BufTy).Contents (Elt F)),
    nullary main_cst_3 (constant S_ .f32 0x3F800000#32),
    unary main_cst_3 main_v59 (broadcastInDim S249x1x20 ![] bcast_S_S249x1x20 : (⟨S_, .f32⟩ : BufTy).Contents (Elt F) → (⟨S249x1x20, .f32⟩ : BufTy).Contents (Elt F)),
    binary main_v58 main_v59 main_v60 (addf : (⟨S249x1x20, .f32⟩ : BufTy).Contents (Elt F) → (⟨S249x1x20, .f32⟩ : BufTy).Contents (Elt F) → (⟨S249x1x20, .f32⟩ : BufTy).Contents (Elt F)),
    unary main_v3 main_v61 ((extractStridedSlice S249x1x20x1 ![0, 0, 0, 2] · slices_S249x1x20x4_S249x1x20x1_0_0_0_2) : (⟨S249x1x20x4, .f32⟩ : BufTy).Contents (Elt F) → (⟨S249x1x20x1, .f32⟩ : BufTy).Contents (Elt F)),
    reshape main_v61 main_v62 (rfl : (.f32 : EltTy) = .f32) shapeCasts_S249x1x20x1_S249x1x20,
    unary main_v3 main_v63 ((extractStridedSlice S249x1x20x1 ![0, 0, 0, 1] · slices_S249x1x20x4_S249x1x20x1_0_0_0_1) : (⟨S249x1x20x4, .f32⟩ : BufTy).Contents (Elt F) → (⟨S249x1x20x1, .f32⟩ : BufTy).Contents (Elt F)),
    reshape main_v63 main_v64 (rfl : (.f32 : EltTy) = .f32) shapeCasts_S249x1x20x1_S249x1x20,
    binary main_v62 main_v64 main_v65 (subf : (⟨S249x1x20, .f32⟩ : BufTy).Contents (Elt F) → (⟨S249x1x20, .f32⟩ : BufTy).Contents (Elt F) → (⟨S249x1x20, .f32⟩ : BufTy).Contents (Elt F)),
    nullary main_cst_4 (constant S_ .f32 0x3F800000#32),
    unary main_cst_4 main_v66 (broadcastInDim S249x1x20 ![] bcast_S_S249x1x20 : (⟨S_, .f32⟩ : BufTy).Contents (Elt F) → (⟨S249x1x20, .f32⟩ : BufTy).Contents (Elt F)),
    binary main_v65 main_v66 main_v67 (addf : (⟨S249x1x20, .f32⟩ : BufTy).Contents (Elt F) → (⟨S249x1x20, .f32⟩ : BufTy).Contents (Elt F) → (⟨S249x1x20, .f32⟩ : BufTy).Contents (Elt F)),
    binary main_v60 main_v67 main_v68 (mulf : (⟨S249x1x20, .f32⟩ : BufTy).Contents (Elt F) → (⟨S249x1x20, .f32⟩ : BufTy).Contents (Elt F) → (⟨S249x1x20, .f32⟩ : BufTy).Contents (Elt F)) ]

/-- Intersection over union. -/
abbrev ratio : List (HloOp τ sig (Elt F)) :=
  [ unary main_v53 main_v69 (broadcastInDim S249x20x20 ![0, 1, 2] bcast_S249x20x1_S249x20x20_0_1_2 : (⟨S249x20x1, .f32⟩ : BufTy).Contents (Elt F) → (⟨S249x20x20, .f32⟩ : BufTy).Contents (Elt F)),
    unary main_v68 main_v70 (broadcastInDim S249x20x20 ![0, 1, 2] bcast_S249x1x20_S249x20x20_0_1_2 : (⟨S249x1x20, .f32⟩ : BufTy).Contents (Elt F) → (⟨S249x20x20, .f32⟩ : BufTy).Contents (Elt F)),
    binary main_v69 main_v70 main_v71 (addf : (⟨S249x20x20, .f32⟩ : BufTy).Contents (Elt F) → (⟨S249x20x20, .f32⟩ : BufTy).Contents (Elt F) → (⟨S249x20x20, .f32⟩ : BufTy).Contents (Elt F)),
    binary main_v71 main_v38 main_v72 (subf : (⟨S249x20x20, .f32⟩ : BufTy).Contents (Elt F) → (⟨S249x20x20, .f32⟩ : BufTy).Contents (Elt F) → (⟨S249x20x20, .f32⟩ : BufTy).Contents (Elt F)),
    binary main_v38 main_v72 main_v73 (Host.divf : (⟨S249x20x20, .f32⟩ : BufTy).Contents (Elt F) → (⟨S249x20x20, .f32⟩ : BufTy).Contents (Elt F) → (⟨S249x20x20, .f32⟩ : BufTy).Contents (Elt F)) ]

/-- Box `j` of pair `t` has number `20 * (t - 1) + j`, -/
abbrev numbers : List (HloOp τ sig (Elt F)) :=
  [ nullary main_v74 (iotaInDim S249 32 0),
    nullary main_c (constantI S_ 32 1#32),
    unary main_c main_v75 (broadcastInDim S249 ![] bcast_S_S249 : (⟨S_, .i32⟩ : BufTy).Contents (Elt F) → (⟨S249, .i32⟩ : BufTy).Contents (Elt F)),
    binary main_v74 main_v75 main_v76 (subi : (⟨S249, .i32⟩ : BufTy).Contents (Elt F) → (⟨S249, .i32⟩ : BufTy).Contents (Elt F) → (⟨S249, .i32⟩ : BufTy).Contents (Elt F)),
    nullary main_c_5 (constantI S_ 32 20#32),
    unary main_c_5 main_v77 (broadcastInDim S249 ![] bcast_S_S249 : (⟨S_, .i32⟩ : BufTy).Contents (Elt F) → (⟨S249, .i32⟩ : BufTy).Contents (Elt F)),
    binary main_v77 main_v76 main_v78 (muli : (⟨S249, .i32⟩ : BufTy).Contents (Elt F) → (⟨S249, .i32⟩ : BufTy).Contents (Elt F) → (⟨S249, .i32⟩ : BufTy).Contents (Elt F)),
    unary main_v78 main_v79 (broadcastInDim S249x1 ![0] bcast_S249_S249x1_0 : (⟨S249, .i32⟩ : BufTy).Contents (Elt F) → (⟨S249x1, .i32⟩ : BufTy).Contents (Elt F)),
    nullary main_v80 (iotaInDim S20 32 0),
    unary main_v80 main_v81 (broadcastInDim S1x20 ![1] bcast_S20_S1x20_1 : (⟨S20, .i32⟩ : BufTy).Contents (Elt F) → (⟨S1x20, .i32⟩ : BufTy).Contents (Elt F)),
    unary main_v79 main_v82 (broadcastInDim S249x20 ![0, 1] bcast_S249x1_S249x20_0_1 : (⟨S249x1, .i32⟩ : BufTy).Contents (Elt F) → (⟨S249x20, .i32⟩ : BufTy).Contents (Elt F)),
    unary main_v81 main_v83 (broadcastInDim S249x20 ![0, 1] bcast_S1x20_S249x20_0_1 : (⟨S1x20, .i32⟩ : BufTy).Contents (Elt F) → (⟨S249x20, .i32⟩ : BufTy).Contents (Elt F)),
    binary main_v82 main_v83 main_v84 (addi : (⟨S249x20, .i32⟩ : BufTy).Contents (Elt F) → (⟨S249x20, .i32⟩ : BufTy).Contents (Elt F) → (⟨S249x20, .i32⟩ : BufTy).Contents (Elt F)) ]

/-- taken modulo 5000. -/
abbrev reduced : List (HloOp τ sig (Elt F)) :=
  [ nullary main_c_6 (constantI S_ 32 5000#32),
    TRef.unary (TRef.of (T := ⟨S_, .i32⟩) main_c_6) (TRef.of (T := ⟨S_, .i32⟩) main_call0_v0) id,
    TRef.nullary (TRef.of (T := ⟨S_, .i32⟩) main_call0_c) (constantI S_ 32 0#32),
    TRef.binary (TRef.of (T := ⟨S_, .i32⟩) main_call0_v0) (TRef.of (T := ⟨S_, .i32⟩) main_call0_c) (TRef.of (T := ⟨S_, .i1⟩) main_call0_v1) (cmpi .eq),
    TRef.nullary (TRef.of (T := ⟨S_, .i32⟩) main_call0_c_0) (constantI S_ 32 1#32),
    TRef.ternary (TRef.of (T := ⟨S_, .i1⟩) main_call0_v1) (TRef.of (T := ⟨S_, .i32⟩) main_call0_c_0) (TRef.of (T := ⟨S_, .i32⟩) main_call0_v0) (TRef.of (T := ⟨S_, .i32⟩) main_call0_v2) select,
    TRef.unary (TRef.of (T := ⟨S_, .i32⟩) main_call0_v2) (TRef.of (T := ⟨S249x20, .i32⟩) main_call0_v3) (broadcastInDim S249x20 ![] bcast_S_S249x20),
    TRef.binary (TRef.of (T := ⟨S249x20, .i32⟩) main_v84) (TRef.of (T := ⟨S249x20, .i32⟩) main_call0_v3) (TRef.of (T := ⟨S249x20, .i32⟩) main_call0_v4) Host.remsi,
    TRef.nullary (TRef.of (T := ⟨S_, .i32⟩) main_call0_c_1) (constantI S_ 32 0#32),
    TRef.unary (TRef.of (T := ⟨S_, .i32⟩) main_call0_c_1) (TRef.of (T := ⟨S249x20, .i32⟩) main_call0_v5) (broadcastInDim S249x20 ![] bcast_S_S249x20),
    TRef.binary (TRef.of (T := ⟨S249x20, .i32⟩) main_call0_v4) (TRef.of (T := ⟨S249x20, .i32⟩) main_call0_v5) (TRef.of (T := ⟨S249x20, .i1⟩) main_call0_v6) (cmpi .ne),
    TRef.nullary (TRef.of (T := ⟨S_, .i32⟩) main_call0_c_2) (constantI S_ 32 0#32),
    TRef.unary (TRef.of (T := ⟨S_, .i32⟩) main_call0_c_2) (TRef.of (T := ⟨S249x20, .i32⟩) main_call0_v7) (broadcastInDim S249x20 ![] bcast_S_S249x20),
    TRef.binary (TRef.of (T := ⟨S249x20, .i32⟩) main_call0_v4) (TRef.of (T := ⟨S249x20, .i32⟩) main_call0_v7) (TRef.of (T := ⟨S249x20, .i1⟩) main_call0_v8) (cmpi .slt),
    TRef.nullary (TRef.of (T := ⟨S_, .i32⟩) main_call0_c_3) (constantI S_ 32 0#32),
    TRef.binary (TRef.of (T := ⟨S_, .i32⟩) main_call0_v2) (TRef.of (T := ⟨S_, .i32⟩) main_call0_c_3) (TRef.of (T := ⟨S_, .i1⟩) main_call0_v9) (cmpi .slt),
    TRef.unary (TRef.of (T := ⟨S_, .i1⟩) main_call0_v9) (TRef.of (T := ⟨S249x20, .i1⟩) main_call0_v10) (broadcastInDim S249x20 ![] bcast_S_S249x20),
    TRef.binary (TRef.of (T := ⟨S249x20, .i1⟩) main_call0_v8) (TRef.of (T := ⟨S249x20, .i1⟩) main_call0_v10) (TRef.of (T := ⟨S249x20, .i1⟩) main_call0_v11) (cmpi .ne),
    TRef.binary (TRef.of (T := ⟨S249x20, .i1⟩) main_call0_v11) (TRef.of (T := ⟨S249x20, .i1⟩) main_call0_v6) (TRef.of (T := ⟨S249x20, .i1⟩) main_call0_v12) andi,
    TRef.unary (TRef.of (T := ⟨S_, .i32⟩) main_call0_v2) (TRef.of (T := ⟨S249x20, .i32⟩) main_call0_v13) (broadcastInDim S249x20 ![] bcast_S_S249x20),
    TRef.binary (TRef.of (T := ⟨S249x20, .i32⟩) main_call0_v4) (TRef.of (T := ⟨S249x20, .i32⟩) main_call0_v13) (TRef.of (T := ⟨S249x20, .i32⟩) main_call0_v14) addi,
    TRef.ternary (TRef.of (T := ⟨S249x20, .i1⟩) main_call0_v12) (TRef.of (T := ⟨S249x20, .i32⟩) main_call0_v14) (TRef.of (T := ⟨S249x20, .i32⟩) main_call0_v4) (TRef.of (T := ⟨S249x20, .i32⟩) main_v85) select ]

/-- The result, zero to begin with. -/
abbrev cleared : List (HloOp τ sig (Elt F)) :=
  [ nullary main_cst_7 (constant S_ .f32 0x00000000#32),
    unary main_cst_7 main_v86 (broadcastInDim S5000x5000 ![] bcast_S_S5000x5000 : (⟨S_, .f32⟩ : BufTy).Contents (Elt F) → (⟨S5000x5000, .f32⟩ : BufTy).Contents (Elt F)) ]

/-- Where each ratio goes: a row and a column of the result. -/
abbrev places : List (HloOp τ sig (Elt F)) :=
  [ unary main_v85 main_v87 (broadcastInDim S249x20x1 ![0, 1] bcast_S249x20_S249x20x1_0_1 : (⟨S249x20, .i32⟩ : BufTy).Contents (Elt F) → (⟨S249x20x1, .i32⟩ : BufTy).Contents (Elt F)),
    unary main_v85 main_v88 (broadcastInDim S249x1x20 ![0, 2] bcast_S249x20_S249x1x20_0_2 : (⟨S249x20, .i32⟩ : BufTy).Contents (Elt F) → (⟨S249x1x20, .i32⟩ : BufTy).Contents (Elt F)),
    nullary main_c_8 (constantI S_ 32 0#32),
    unary main_c_8 main_v89 (broadcastInDim S249x20x1 ![] bcast_S_S249x20x1 : (⟨S_, .i32⟩ : BufTy).Contents (Elt F) → (⟨S249x20x1, .i32⟩ : BufTy).Contents (Elt F)),
    binary main_v87 main_v89 main_v90 (cmpi .slt : (⟨S249x20x1, .i32⟩ : BufTy).Contents (Elt F) → (⟨S249x20x1, .i32⟩ : BufTy).Contents (Elt F) → (⟨S249x20x1, .i1⟩ : BufTy).Contents (Elt F)),
    nullary main_c_9 (constantI S_ 32 5000#32),
    unary main_c_9 main_v91 (broadcastInDim S249x20x1 ![] bcast_S_S249x20x1 : (⟨S_, .i32⟩ : BufTy).Contents (Elt F) → (⟨S249x20x1, .i32⟩ : BufTy).Contents (Elt F)),
    binary main_v87 main_v91 main_v92 (addi : (⟨S249x20x1, .i32⟩ : BufTy).Contents (Elt F) → (⟨S249x20x1, .i32⟩ : BufTy).Contents (Elt F) → (⟨S249x20x1, .i32⟩ : BufTy).Contents (Elt F)),
    ternary main_v90 main_v92 main_v87 main_v93 (select : (⟨S249x20x1, .i1⟩ : BufTy).Contents (Elt F) → (⟨S249x20x1, .i32⟩ : BufTy).Contents (Elt F) → (⟨S249x20x1, .i32⟩ : BufTy).Contents (Elt F) → (⟨S249x20x1, .i32⟩ : BufTy).Contents (Elt F)),
    nullary main_c_10 (constantI S_ 32 0#32),
    unary main_c_10 main_v94 (broadcastInDim S249x1x20 ![] bcast_S_S249x1x20 : (⟨S_, .i32⟩ : BufTy).Contents (Elt F) → (⟨S249x1x20, .i32⟩ : BufTy).Contents (Elt F)),
    binary main_v88 main_v94 main_v95 (cmpi .slt : (⟨S249x1x20, .i32⟩ : BufTy).Contents (Elt F) → (⟨S249x1x20, .i32⟩ : BufTy).Contents (Elt F) → (⟨S249x1x20, .i1⟩ : BufTy).Contents (Elt F)),
    nullary main_c_11 (constantI S_ 32 5000#32),
    unary main_c_11 main_v96 (broadcastInDim S249x1x20 ![] bcast_S_S249x1x20 : (⟨S_, .i32⟩ : BufTy).Contents (Elt F) → (⟨S249x1x20, .i32⟩ : BufTy).Contents (Elt F)),
    binary main_v88 main_v96 main_v97 (addi : (⟨S249x1x20, .i32⟩ : BufTy).Contents (Elt F) → (⟨S249x1x20, .i32⟩ : BufTy).Contents (Elt F) → (⟨S249x1x20, .i32⟩ : BufTy).Contents (Elt F)),
    ternary main_v95 main_v97 main_v88 main_v98 (select : (⟨S249x1x20, .i1⟩ : BufTy).Contents (Elt F) → (⟨S249x1x20, .i32⟩ : BufTy).Contents (Elt F) → (⟨S249x1x20, .i32⟩ : BufTy).Contents (Elt F) → (⟨S249x1x20, .i32⟩ : BufTy).Contents (Elt F)),
    unary main_v93 main_v99 (broadcastInDim S249x20x20 ![0, 1, 2] bcast_S249x20x1_S249x20x20_0_1_2 : (⟨S249x20x1, .i32⟩ : BufTy).Contents (Elt F) → (⟨S249x20x20, .i32⟩ : BufTy).Contents (Elt F)),
    unary main_v98 main_v100 (broadcastInDim S249x20x20 ![0, 1, 2] bcast_S249x1x20_S249x20x20_0_1_2 : (⟨S249x1x20, .i32⟩ : BufTy).Contents (Elt F) → (⟨S249x20x20, .i32⟩ : BufTy).Contents (Elt F)),
    unary main_v99 main_v101 (broadcastInDim S249x20x20x1 ![0, 1, 2] bcast_S249x20x20_S249x20x20x1_0_1_2 : (⟨S249x20x20, .i32⟩ : BufTy).Contents (Elt F) → (⟨S249x20x20x1, .i32⟩ : BufTy).Contents (Elt F)),
    unary main_v100 main_v102 (broadcastInDim S249x20x20x1 ![0, 1, 2] bcast_S249x20x20_S249x20x20x1_0_1_2 : (⟨S249x20x20, .i32⟩ : BufTy).Contents (Elt F) → (⟨S249x20x20x1, .i32⟩ : BufTy).Contents (Elt F)),
    binary main_v101 main_v102 main_v103 stacked ]

/-- The ratios written there. -/
abbrev spread : List (HloOp τ sig (Elt F)) :=
  [ ternary main_v86 main_v103 main_v73 main_v104 ((fun x i u => Host.scatter scatter_S5000x5000_S249x20x20x2_S249x20x20_n_01_01_3 (fun _ b => b) x i u) : (⟨S5000x5000, .f32⟩ : BufTy).Contents (Elt F) → (⟨S249x20x20x2, .i32⟩ : BufTy).Contents (Elt F) → (⟨S249x20x20, .f32⟩ : BufTy).Contents (Elt F) → (⟨S5000x5000, .f32⟩ : BufTy).Contents (Elt F)),
    reshape main_v104 main_v105 (rfl : (.f32 : EltTy) = .f32) shapeCasts_S5000x5000_S1x5000x5000 ]

theorem pairs_sub : (pairs (F := F)).Forall fun op => op.bufs ⊆ tcRefs τ sig :=
  ⟨unary_bufs_sub .., unary_bufs_sub .., unary_bufs_sub .., unary_bufs_sub ..⟩
theorem crossing_sub : (crossing (F := F)).Forall fun op => op.bufs ⊆ tcRefs τ sig :=
  ⟨unary_bufs_sub .., reshape_bufs_sub .., unary_bufs_sub .., reshape_bufs_sub .., unary_bufs_sub ..,
    unary_bufs_sub .., binary_bufs_sub .., unary_bufs_sub .., reshape_bufs_sub .., unary_bufs_sub ..,
    reshape_bufs_sub .., unary_bufs_sub .., unary_bufs_sub .., binary_bufs_sub .., unary_bufs_sub ..,
    reshape_bufs_sub .., unary_bufs_sub .., reshape_bufs_sub .., unary_bufs_sub .., unary_bufs_sub ..,
    binary_bufs_sub .., unary_bufs_sub .., reshape_bufs_sub .., unary_bufs_sub .., reshape_bufs_sub ..,
    unary_bufs_sub .., unary_bufs_sub .., binary_bufs_sub .., binary_bufs_sub .., nullary_bufs_sub ..,
    unary_bufs_sub .., binary_bufs_sub .., binary_bufs_sub .., nullary_bufs_sub .., unary_bufs_sub ..,
    binary_bufs_sub .., binary_bufs_sub ..⟩
theorem areasA_sub : (areasA (F := F)).Forall fun op => op.bufs ⊆ tcRefs τ sig :=
  ⟨unary_bufs_sub .., reshape_bufs_sub .., unary_bufs_sub .., reshape_bufs_sub .., binary_bufs_sub ..,
    nullary_bufs_sub .., unary_bufs_sub .., binary_bufs_sub .., unary_bufs_sub .., reshape_bufs_sub ..,
    unary_bufs_sub .., reshape_bufs_sub .., binary_bufs_sub .., nullary_bufs_sub .., unary_bufs_sub ..,
    binary_bufs_sub .., binary_bufs_sub ..⟩
theorem areasB_sub : (areasB (F := F)).Forall fun op => op.bufs ⊆ tcRefs τ sig :=
  ⟨unary_bufs_sub .., reshape_bufs_sub .., unary_bufs_sub .., reshape_bufs_sub .., binary_bufs_sub ..,
    nullary_bufs_sub .., unary_bufs_sub .., binary_bufs_sub .., unary_bufs_sub .., reshape_bufs_sub ..,
    unary_bufs_sub .., reshape_bufs_sub .., binary_bufs_sub .., nullary_bufs_sub .., unary_bufs_sub ..,
    binary_bufs_sub .., binary_bufs_sub ..⟩
theorem ratio_sub : (ratio (F := F)).Forall fun op => op.bufs ⊆ tcRefs τ sig :=
  ⟨unary_bufs_sub .., unary_bufs_sub .., binary_bufs_sub .., binary_bufs_sub .., binary_bufs_sub ..⟩
theorem numbers_sub : (numbers (F := F)).Forall fun op => op.bufs ⊆ tcRefs τ sig :=
  ⟨nullary_bufs_sub .., nullary_bufs_sub .., unary_bufs_sub .., binary_bufs_sub .., nullary_bufs_sub ..,
    unary_bufs_sub .., binary_bufs_sub .., unary_bufs_sub .., nullary_bufs_sub .., unary_bufs_sub ..,
    unary_bufs_sub .., unary_bufs_sub .., binary_bufs_sub ..⟩
theorem reduced_sub : (reduced (F := F)).Forall fun op => op.bufs ⊆ tcRefs τ sig :=
  ⟨nullary_bufs_sub .., unary_bufs_sub .., nullary_bufs_sub .., binary_bufs_sub .., nullary_bufs_sub ..,
    ternary_bufs_sub .., unary_bufs_sub .., binary_bufs_sub .., nullary_bufs_sub .., unary_bufs_sub ..,
    binary_bufs_sub .., nullary_bufs_sub .., unary_bufs_sub .., binary_bufs_sub .., nullary_bufs_sub ..,
    binary_bufs_sub .., unary_bufs_sub .., binary_bufs_sub .., binary_bufs_sub .., unary_bufs_sub ..,
    binary_bufs_sub .., ternary_bufs_sub ..⟩
theorem cleared_sub : (cleared (F := F)).Forall fun op => op.bufs ⊆ tcRefs τ sig :=
  ⟨nullary_bufs_sub .., unary_bufs_sub ..⟩
theorem places_sub : (places (F := F)).Forall fun op => op.bufs ⊆ tcRefs τ sig :=
  ⟨unary_bufs_sub .., unary_bufs_sub .., nullary_bufs_sub .., unary_bufs_sub .., binary_bufs_sub ..,
    nullary_bufs_sub .., unary_bufs_sub .., binary_bufs_sub .., ternary_bufs_sub .., nullary_bufs_sub ..,
    unary_bufs_sub .., binary_bufs_sub .., nullary_bufs_sub .., unary_bufs_sub .., binary_bufs_sub ..,
    ternary_bufs_sub .., unary_bufs_sub .., unary_bufs_sub .., unary_bufs_sub .., unary_bufs_sub ..,
    binary_bufs_sub ..⟩
theorem spread_sub : (spread (F := F)).Forall fun op => op.bufs ⊆ tcRefs τ sig :=
  ⟨ternary_bufs_sub .., reshape_bufs_sub ..⟩

/-- All of them, in order. -/
abbrev line : List (HloOp τ sig (Elt F)) :=
  pairs ++ (crossing ++ (areasA ++ (areasB ++ (ratio ++ (numbers ++ (reduced ++ (cleared ++ (places ++ (spread)))))))))

set_option maxRecDepth 8192 in
theorem main_eq (c : Dev nD) : main (F := F) c = seq line := rfl

theorem line_sub : (line (F := F)).Forall fun op => op.bufs ⊆ tcRefs τ sig := by
  simp only [line, List.forall_append]
  exact ⟨pairs_sub, crossing_sub, areasA_sub, areasB_sub, ratio_sub, numbers_sub, reduced_sub, cleared_sub, places_sub, spread_sub⟩

end Cert.Proof.Ref

end
-- ==== Proof.RefTerm.lean ====
/-
  What the reference's lists of operations leave, as functions of the boxes, and the reference's run.
-/
module

public import proofs.«01_k».proof.Proof.RefOps

@[expose] public section

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-! ## The functions -/

/-- The boxes of the earlier frame of a pair, and those of the later. -/
def early (x : S250x20x4.Idx → F .f32) : S249x20x1x4.Idx → F .f32 :=
  broadcastInDim S249x20x1x4 ![0, 1, 3] bcast_S249x20x4_S249x20x1x4_0_1_3 (extractStridedSlice S249x20x4 ![0, 0, 0] x slices_S250x20x4_S249x20x4_0_0_0)
def late (x : S250x20x4.Idx → F .f32) : S249x1x20x4.Idx → F .f32 :=
  broadcastInDim S249x1x20x4 ![0, 2, 3] bcast_S249x20x4_S249x1x20x4_0_2_3 (extractStridedSlice S249x20x4 ![1, 0, 0] x slices_S250x20x4_S249x20x4_1_0_0)

/-- One coordinate of every box. -/
def coordA (o : Fin 4 → ℕ) (h : S249x20x1x4.Slices o S249x20x1x1) (p : S249x20x1x4.Idx → F .f32) : S249x20x1.Idx → F .f32 :=
  shapeCast S249x20x1 (extractStridedSlice S249x20x1x1 o p h) shapeCasts_S249x20x1x1_S249x20x1
def coordB (o : Fin 4 → ℕ) (h : S249x1x20x4.Slices o S249x1x20x1) (p : S249x1x20x4.Idx → F .f32) : S249x1x20.Idx → F .f32 :=
  shapeCast S249x1x20 (extractStridedSlice S249x1x20x1 o p h) shapeCasts_S249x1x20x1_S249x1x20

def a0 (p : S249x20x1x4.Idx → F .f32) := coordA ![0, 0, 0, 0] slices_S249x20x1x4_S249x20x1x1_0_0_0_0 p
def a1 (p : S249x20x1x4.Idx → F .f32) := coordA ![0, 0, 0, 1] slices_S249x20x1x4_S249x20x1x1_0_0_0_1 p
def a2 (p : S249x20x1x4.Idx → F .f32) := coordA ![0, 0, 0, 2] slices_S249x20x1x4_S249x20x1x1_0_0_0_2 p
def a3 (p : S249x20x1x4.Idx → F .f32) := coordA ![0, 0, 0, 3] slices_S249x20x1x4_S249x20x1x1_0_0_0_3 p
def b0 (p : S249x1x20x4.Idx → F .f32) := coordB ![0, 0, 0, 0] slices_S249x1x20x4_S249x1x20x1_0_0_0_0 p
def b1 (p : S249x1x20x4.Idx → F .f32) := coordB ![0, 0, 0, 1] slices_S249x1x20x4_S249x1x20x1_0_0_0_1 p
def b2 (p : S249x1x20x4.Idx → F .f32) := coordB ![0, 0, 0, 2] slices_S249x1x20x4_S249x1x20x1_0_0_0_2 p
def b3 (p : S249x1x20x4.Idx → F .f32) := coordB ![0, 0, 0, 3] slices_S249x1x20x4_S249x1x20x1_0_0_0_3 p

/-- A value per earlier box, or per later box, at every pair. -/
def overA {α : Type} (v : S249x20x1.Idx → α) : S249x20x20.Idx → α := broadcastInDim S249x20x20 ![0, 1, 2] bcast_S249x20x1_S249x20x20_0_1_2 v
def overB {α : Type} (v : S249x1x20.Idx → α) : S249x20x20.Idx → α := broadcastInDim S249x20x20 ![0, 1, 2] bcast_S249x1x20_S249x20x20_0_1_2 v

def zeros : S249x20x20.Idx → F .f32 := broadcastInDim S249x20x20 ![] bcast_S_S249x20x20 (constant S_ .f32 0x00000000#32)
def onesA : S249x20x1.Idx → F .f32 := broadcastInDim S249x20x1 ![] bcast_S_S249x20x1 (constant S_ .f32 0x3F800000#32)
def onesB : S249x1x20.Idx → F .f32 := broadcastInDim S249x1x20 ![] bcast_S_S249x1x20 (constant S_ .f32 0x3F800000#32)

def cross (p : S249x20x1x4.Idx → F .f32) (q : S249x1x20x4.Idx → F .f32) : S249x20x20.Idx → F .f32 :=
  mulf (maximumf (subf (minimumf (overA (a2 p)) (overB (b2 q))) (maximumf (overA (a0 p)) (overB (b0 q)))) zeros)
    (maximumf (subf (minimumf (overA (a3 p)) (overB (b3 q))) (maximumf (overA (a1 p)) (overB (b1 q)))) zeros)
def sizeA (p : S249x20x1x4.Idx → F .f32) : S249x20x1.Idx → F .f32 :=
  mulf (addf (subf (a2 p) (a0 p)) onesA) (addf (subf (a3 p) (a1 p)) onesA)
def sizeB (q : S249x1x20x4.Idx → F .f32) : S249x1x20.Idx → F .f32 :=
  mulf (addf (subf (b2 q) (b0 q)) onesB) (addf (subf (b2 q) (b1 q)) onesB)
def quotient (c : S249x20x20.Idx → F .f32) (a : S249x20x1.Idx → F .f32) (b : S249x1x20.Idx → F .f32) : S249x20x20.Idx → F .f32 :=
  Host.divf c (subf (addf (overA a) (overB b)) c)

/-- The numbers of the boxes, before and after the reduction. -/
def number : S249x20.Idx → BitVec 32 :=
  addi (broadcastInDim S249x20 ![0, 1] bcast_S249x1_S249x20_0_1 (broadcastInDim S249x1 ![0] bcast_S249_S249x1_0
      (muli (broadcastInDim S249 ![] bcast_S_S249 (constantI S_ 32 20#32)) (subi (iotaInDim S249 32 0) (broadcastInDim S249 ![] bcast_S_S249 (constantI S_ 32 1#32))))))
    (broadcastInDim S249x20 ![0, 1] bcast_S1x20_S249x20_0_1 (broadcastInDim S1x20 ![1] bcast_S20_S1x20_1 (iotaInDim S20 32 0)))
def modulus : S_.Idx → BitVec 32 := select (cmpi .eq (constantI S_ 32 5000#32) (constantI S_ 32 0#32)) (constantI S_ 32 1#32) (constantI S_ 32 5000#32)
def remainders (n : S249x20.Idx → BitVec 32) : S249x20.Idx → BitVec 32 := Host.remsi n (broadcastInDim S249x20 ![] bcast_S_S249x20 modulus)
def reduce (n : S249x20.Idx → BitVec 32) : S249x20.Idx → BitVec 32 :=
  select (andi (cmpi .ne (cmpi .slt (remainders n) (broadcastInDim S249x20 ![] bcast_S_S249x20 (constantI S_ 32 0#32)))
        (broadcastInDim S249x20 ![] bcast_S_S249x20 (cmpi .slt modulus (constantI S_ 32 0#32))))
      (cmpi .ne (remainders n) (broadcastInDim S249x20 ![] bcast_S_S249x20 (constantI S_ 32 0#32))))
    (addi (remainders n) (broadcastInDim S249x20 ![] bcast_S_S249x20 modulus)) (remainders n)

/-- The row and the column of a pair's ratio. -/
def rowAt (n : S249x20.Idx → BitVec 32) : S249x20x1.Idx → BitVec 32 :=
  select (cmpi .slt (broadcastInDim S249x20x1 ![0, 1] bcast_S249x20_S249x20x1_0_1 n) (broadcastInDim S249x20x1 ![] bcast_S_S249x20x1 (constantI S_ 32 0#32)))
    (addi (broadcastInDim S249x20x1 ![0, 1] bcast_S249x20_S249x20x1_0_1 n) (broadcastInDim S249x20x1 ![] bcast_S_S249x20x1 (constantI S_ 32 5000#32)))
    (broadcastInDim S249x20x1 ![0, 1] bcast_S249x20_S249x20x1_0_1 n)
def colAt (n : S249x20.Idx → BitVec 32) : S249x1x20.Idx → BitVec 32 :=
  select (cmpi .slt (broadcastInDim S249x1x20 ![0, 2] bcast_S249x20_S249x1x20_0_2 n) (broadcastInDim S249x1x20 ![] bcast_S_S249x1x20 (constantI S_ 32 0#32)))
    (addi (broadcastInDim S249x1x20 ![0, 2] bcast_S249x20_S249x1x20_0_2 n) (broadcastInDim S249x1x20 ![] bcast_S_S249x1x20 (constantI S_ 32 5000#32)))
    (broadcastInDim S249x1x20 ![0, 2] bcast_S249x20_S249x1x20_0_2 n)
def where_ (n : S249x20.Idx → BitVec 32) : S249x20x20x2.Idx → BitVec 32 :=
  stacked (broadcastInDim S249x20x20x1 ![0, 1, 2] bcast_S249x20x20_S249x20x20x1_0_1_2 (overA (rowAt n)))
    (broadcastInDim S249x20x20x1 ![0, 1, 2] bcast_S249x20x20_S249x20x20x1_0_1_2 (overB (colAt n)))
def blank : S5000x5000.Idx → F .f32 := broadcastInDim S5000x5000 ![] bcast_S_S5000x5000 (constant S_ .f32 0x00000000#32)

def written (i : S249x20x20x2.Idx → BitVec 32) (u : S249x20x20.Idx → F .f32) : S5000x5000.Idx → F .f32 :=
  Host.scatter scatter_S5000x5000_S249x20x20x2_S249x20x20_n_01_01_3 (fun _ b => b) blank i u

/-- The ratios of all pairs, -/
def ratios (x : S250x20x4.Idx → F .f32) : S249x20x20.Idx → F .f32 :=
  quotient (cross (early x) (late x)) (sizeA (early x)) (sizeB (late x))
/-- and the reference's result. -/
def result (x : S250x20x4.Idx → F .f32) : S1x5000x5000.Idx → F .f32 :=
  shapeCast S1x5000x5000 (written (where_ (reduce number)) (ratios x)) shapeCasts_S5000x5000_S1x5000x5000

/-! ## The lists -/

variable (V : Valuation τ sig (Elt F))

/-- The buffer of a value of @main. -/
abbrev at_ (r : Ref sig .tc) : DevRef τ sig := Proc.devRef .tc r

theorem pairs_a : after pairs V (at_ main_v2) = early (V (at_ main_arg0)) := by
  after_results_simp; rfl
theorem pairs_b : after pairs V (at_ main_v3) = late (V (at_ main_arg0)) := by
  after_results_simp; rfl
theorem crossing_v : after crossing V (at_ main_v38) = cross (V (at_ main_v2)) (V (at_ main_v3)) := by
  after_results_simp; rfl
theorem areasA_v : after areasA V (at_ main_v53) = sizeA (V (at_ main_v2)) := by
  after_results_simp; rfl
theorem areasB_v : after areasB V (at_ main_v68) = sizeB (V (at_ main_v3)) := by
  after_results_simp; rfl
theorem ratio_v : after ratio V (at_ main_v73) = quotient (V (at_ main_v38)) (V (at_ main_v53)) (V (at_ main_v68)) := by
  after_results_simp; rfl
theorem numbers_v : after numbers V (at_ main_v84) = (number : S249x20.Idx → BitVec 32) := by
  after_results_simp; rfl
theorem reduced_v : after reduced V (at_ main_v85) = reduce (V (at_ main_v84)) := by
  simp only [reduced, TRef.binary, TRef.nullary, TRef.ternary, TRef.unary, TRef.toBuf, TRef.ofBuf, cast_eq]
  after_results_simp; rfl
theorem cleared_v : after cleared V (at_ main_v86) = (blank : S5000x5000.Idx → F .f32) := by
  after_results_simp; rfl
theorem places_v : after places V (at_ main_v103) = where_ (V (at_ main_v85)) := by
  after_results_simp; rfl
theorem spread_v (h : V (at_ main_v86) = (blank : S5000x5000.Idx → F .f32)) : after spread V (at_ main_v105)
    = shapeCast S1x5000x5000 (written (V (at_ main_v103)) (V (at_ main_v73))) shapeCasts_S5000x5000_S1x5000x5000 := by
  after_results_simp
  rw [h]; rfl

/-! What each list leaves as it was. -/

theorem pairs_arg0 : after pairs V (at_ main_arg0) = V (at_ main_arg0) := by after_results_simp
theorem crossing_v2 : after crossing V (at_ main_v2) = V (at_ main_v2) := by after_results_simp
theorem crossing_v3 : after crossing V (at_ main_v3) = V (at_ main_v3) := by after_results_simp
theorem crossing_arg0 : after crossing V (at_ main_arg0) = V (at_ main_arg0) := by after_results_simp
theorem areasA_v38 : after areasA V (at_ main_v38) = V (at_ main_v38) := by after_results_simp
theorem areasA_v3 : after areasA V (at_ main_v3) = V (at_ main_v3) := by after_results_simp
theorem areasA_arg0 : after areasA V (at_ main_arg0) = V (at_ main_arg0) := by after_results_simp
theorem areasB_v38 : after areasB V (at_ main_v38) = V (at_ main_v38) := by after_results_simp
theorem areasB_v53 : after areasB V (at_ main_v53) = V (at_ main_v53) := by after_results_simp
theorem areasB_arg0 : after areasB V (at_ main_arg0) = V (at_ main_arg0) := by after_results_simp
theorem ratio_arg0 : after ratio V (at_ main_arg0) = V (at_ main_arg0) := by after_results_simp
theorem numbers_v73 : after numbers V (at_ main_v73) = V (at_ main_v73) := by after_results_simp
theorem numbers_arg0 : after numbers V (at_ main_arg0) = V (at_ main_arg0) := by after_results_simp
theorem reduced_v73 : after reduced V (at_ main_v73) = V (at_ main_v73) := by simp only [reduced, TRef.binary, TRef.nullary, TRef.ternary, TRef.unary, TRef.toBuf, TRef.ofBuf, cast_eq]; after_results_simp
theorem reduced_arg0 : after reduced V (at_ main_arg0) = V (at_ main_arg0) := by simp only [reduced, TRef.binary, TRef.nullary, TRef.ternary, TRef.unary, TRef.toBuf, TRef.ofBuf, cast_eq]; after_results_simp
theorem cleared_v73 : after cleared V (at_ main_v73) = V (at_ main_v73) := by after_results_simp
theorem cleared_v85 : after cleared V (at_ main_v85) = V (at_ main_v85) := by after_results_simp
theorem cleared_arg0 : after cleared V (at_ main_arg0) = V (at_ main_arg0) := by after_results_simp
theorem places_v73 : after places V (at_ main_v73) = V (at_ main_v73) := by after_results_simp
theorem places_v86 : after places V (at_ main_v86) = V (at_ main_v86) := by after_results_simp
theorem places_arg0 : after places V (at_ main_arg0) = V (at_ main_arg0) := by after_results_simp
theorem spread_arg0 : after spread V (at_ main_arg0) = V (at_ main_arg0) := by after_results_simp

/-! ## The whole -/

theorem after_two (l k : List (HloOp τ sig (Elt F))) (W : Valuation τ sig (Elt F)) : after (l ++ k) W = after k (after l W) := by
  induction l generalizing W with
  | nil => rfl
  | cons o l ih => exact ih _

theorem line_arg : after line V (at_ main_arg0) = V (at_ main_arg0) := by
  simp only [line, after_two]
  rw [spread_arg0, places_arg0, cleared_arg0, reduced_arg0, numbers_arg0, ratio_arg0, areasB_arg0, areasA_arg0, crossing_arg0, pairs_arg0]

theorem line_out : after line V (at_ main_v105) = result (V (at_ main_arg0)) := by
  simp only [line, after_two]
  rw [spread_v _ (by rw [places_v86, cleared_v]), places_v, places_v73, cleared_v85, cleared_v73, reduced_v, reduced_v73, numbers_v, numbers_v73,
    ratio_v, areasB_v, areasB_v38, areasB_v53, areasA_v, areasA_v38, areasA_v3, crossing_v, crossing_v2, crossing_v3, pairs_a, pairs_b]
  rfl

theorem no_bufs : (Finset.univ.filter fun b : Ref sig .tc => b.isScoped) = ∅ := by decide
theorem no_sems : (Finset.univ.filter fun sm : SemLoc sig => sm.isScoped .tc) = ∅ := by decide

set_option maxRecDepth 8192 in
theorem line_fresh : ∀ op ∈ (line (F := F)), op.fresh = ∅ := by
  intro _ h
  (repeat (cases h with | head => rfl | tail _ h => ?_)); exact nomatch h

/-- The reference's run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = result (m ((c.tc : Thread nD τ).loc main_arg0))
      ∧ r.2.mem ((c.tc : Thread nD τ).loc main_arg0) = m ((c.tc : Thread nD τ).loc main_arg0) :=
  (θ_run defs _ _).mono (fun _ h c => ⟨(h c main_v105).trans (line_out _), (h c main_arg0).trans (line_arg _)⟩)
    (run_seq no_bufs no_sems defs main (fun _ => line) main_eq (fun _ => line_sub) m ρ (fun _ => line_fresh))

end Cert.Proof.Ref

end
-- ==== Proof.Frames.lean ====
/-
  The three programs end with their argument as it was and their counters at zero.
-/
module

public import proofs.«01_k».proof.Defs
public import proofs.«01_k».proof.Proof.Main
public import proofs.«01_k».proof.Proof.Same
public import proofs.«01_k».proof.Proof.RefTerm

@[expose] public section

noncomputable section

namespace Cert.Proof

open Idealize.ShloMosaic Idealize.SL.Sem

attribute [local instance] Cert.Kernel.Gen.facts Cert.KernelIdeal.Gen.facts Cert.ReferenceIdeal.Gen.facts

/-- The idealized kernel. -/
theorem ends_ideal : Cert.quiescent_KernelIdeal := fun m ρ _ =>
  (θ_run Cert.KernelIdeal.defs _ _).mono (fun _ h => ⟨fun c => (h.1 c).1, h.2⟩) (Band.run_main (F := Ideal) m ρ)

/-- The kernel, which is the same program. -/
theorem ends_kernel : Cert.quiescent_Kernel := fun m ρ _ => by
  rw [Same.defs, Same.threads]
  exact (θ_run Cert.KernelIdeal.defs _ _).mono (fun _ h => ⟨fun c => (h.1 c).1, h.2⟩) (Band.run_main (F := Bits) m ρ)

/-- The reference, which declares no semaphore. -/
theorem ends_reference : Cert.quiescent_ReferenceIdeal := fun m ρ _ =>
  (θ_run Cert.ReferenceIdeal.defs _ _).mono
    (fun r h => ⟨fun c => (h c).2, sem_eq_zero_of_no_sems (by decide) r.2⟩) (Ref.run (F := Ideal) m ρ)

end Cert.Proof

end
-- ==== Proof.Tables.lean ====
/-
  The two tables, read at a row: row `r` of the first is box `r % 20` of the frame after frame `r / 20`, and of the
  second that of the frame after it, the frames taken round.
-/
module

public import proofs.«01_k».proof.Proof.Host
public import Idealize.ShloMosaic.Lib.Pointwise

@[expose] public section

noncomputable section

namespace Cert.Proof.Band

open Cert.KernelIdeal Cert.KernelIdeal.Gen
open Idealize.ShloMosaic

variable {F : FTy → Type} [FloatOps F]

/-- Box `j` of frame `t`. -/
def boxAt (x : S250x20x4.Idx → F .f32) (t : Fin 250) (j : Fin 20) : Fin 4 → F .f32 := fun c => x (ix3 t j c)

/-- The frame `k` after frame `t`. -/
def after_ (k t : ℕ) : Fin 250 := ⟨(t + k) % 250, Nat.mod_lt _ (by norm_num)⟩

theorem rollOne_at (x : S250x20x4.Idx → F .f32) (t : Fin 250) (j : Fin 20) (c : Fin 4) :
    rollOne x (ix3 t j c) = x (ix3 (after_ 1 t) j c) := by
  pointwise [rollOne]
  split <;> exact congrArg (fun u => x (ix3 u j c)) (Fin.ext (by simp only [after_]; omega))

theorem rollTwo_at (x : S250x20x4.Idx → F .f32) (t : Fin 250) (j : Fin 20) (c : Fin 4) :
    rollTwo x (ix3 t j c) = x (ix3 (after_ 2 t) j c) := by
  pointwise [rollTwo]
  split <;> exact congrArg (fun u => x (ix3 u j c)) (Fin.ext (by simp only [after_]; omega))

theorem padded_at (y : S250x20x4.Idx → F .f32) (r : Fin 5120) (h : r.val < 5000) (c : Fin 4) :
    padded y (ix2 r c) = y (ix3 ⟨r.val / 20, by omega⟩ ⟨r.val % 20, by omega⟩ c) := by
  pointwise [padded]
  exact dif_pos h

/-- A row of the first table, and of the second, as a box. -/
theorem first_row (x : S250x20x4.Idx → F .f32) (r : Fin 5120) (h : r.val < 5000) :
    (fun c => padded (rollOne x) (ix2 r c)) = boxAt x (after_ 1 (r.val / 20)) ⟨r.val % 20, Nat.mod_lt _ (by norm_num)⟩ :=
  funext fun c => (padded_at _ r h c).trans (rollOne_at x _ _ c)
theorem second_row (x : S250x20x4.Idx → F .f32) (r : Fin 5120) (h : r.val < 5000) :
    (fun c => padded (rollTwo x) (ix2 r c)) = boxAt x (after_ 2 (r.val / 20)) ⟨r.val % 20, Nat.mod_lt _ (by norm_num)⟩ :=
  funext fun c => (padded_at _ r h c).trans (rollTwo_at x _ _ c)

end Cert.Proof.Band

end
-- ==== Proof.Spread.lean ====
/-
  What the TensorCore's kernel makes of 640 rows of the band, over the extended reals: row `r` spread over the columns
  of its block of twenty, and zero elsewhere.
-/
module

public import proofs.«01_k».proof.Proof.Strip
public import Idealize.ShloMosaic.Lib.Pointwise
public import Idealize.ShloMosaic.Lib.IdealHost

@[expose] public section

noncomputable section

namespace Cert.Proof.Band

open Cert.KernelIdeal Cert.KernelIdeal.Gen
open Idealize.ShloMosaic

attribute [local instance] Cert.KernelIdeal.Gen.facts

/-! ## Division and remainder by twenty, on the words of the 640 columns -/

/-- The remainder as the kernel takes it, made non-negative. -/
def wordMod (n : BitVec 32) : BitVec 32 :=
  Scalar.select (IntOp.andi (IntOp.xori (IntOp.cmpi .slt (IntOp.remsi .vector n 20#32) 0#32) (Scalar.cmpi .slt (Scalar.select (Scalar.cmpi .eq 20#32 0#32) 1#32 20#32) 0#32))
      (IntOp.cmpi .ne (IntOp.remsi .vector n 20#32) 0#32))
    (IntOp.addi (IntOp.remsi .vector n 20#32) 20#32) (IntOp.remsi .vector n 20#32)

/-- The quotient as the kernel takes it, rounded down. -/
def wordDiv (n : BitVec 32) : BitVec 32 :=
  Scalar.select
    (IntOp.andi
      (IntOp.cmpi .ne (IntOp.subi (BitVec.setWidth 32 (IntOp.cmpi .sgt n 0#32)) (BitVec.setWidth 32 (IntOp.cmpi .slt n 0#32)))
        (Scalar.subi (Scalar.extui (Scalar.cmpi .sgt 20#32 0#32)) (Scalar.extui (Scalar.cmpi .slt 20#32 0#32))))
      (IntOp.cmpi .ne (IntOp.remsi .vector n 20#32) 0#32))
    (IntOp.subi (IntOp.divsi .vector n 20#32) 1#32) (IntOp.divsi .vector n 20#32)

theorem wordMod_eq : ∀ n : Fin 640, wordMod (BitVec.ofNat 32 n.val) = BitVec.ofNat 32 (n.val % 20) := by decide +kernel
theorem wordDiv_eq : ∀ n : Fin 640, wordDiv (BitVec.ofNat 32 n.val) = BitVec.ofNat 32 (n.val / 20) := by decide +kernel

/-- Two small numbers are equal words exactly when they are equal. -/
theorem small_eq {a b : ℕ} (ha : a < 640) (hb : b < 640) :
    IntOp.cmpi .eq (BitVec.ofNat 32 a) (BitVec.ofNat 32 b) = BitVec.ofBool (decide (a = b)) := by
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  show BitVec.ofBool (BitVec.ofNat 32 a == BitVec.ofNat 32 b) = _
  by_cases e : a = b
  · subst e; simp
  · rw [decide_eq_false e]
    exact congrArg BitVec.ofBool (beq_eq_false_iff_ne.mpr fun q => e (h.mp q))

theorem product (B : FVec Ideal S640x20 .f32) (r c : Fin 640) :
    k1_pay2 (F := Ideal) B (ix2 r c) = B (ix2 r ⟨c.val % 20, Nat.mod_lt _ (by norm_num)⟩) := by
  pointwise [k1_pay2]
  have h : ∀ k : Fin 20, Scalar.select (IntOp.cmpi .eq (BitVec.ofNat 32 k.val) (wordMod (BitVec.ofNat 32 c.val))) (B (ix2 r k)) (0 : EReal)
      = if k = ⟨c.val % 20, Nat.mod_lt _ (by norm_num)⟩ then B (ix2 r k) else 0 := fun k => by
    rw [wordMod_eq, small_eq (by omega) (by omega)]
    by_cases e : k.val = c.val % 20
    · rw [if_pos (Fin.ext e), decide_eq_true e]; rfl
    · rw [if_neg fun q => e (congrArg Fin.val q), decide_eq_false e]; rfl
  exact (Finset.sum_congr rfl fun k _ => h k).trans (Finset.sum_ite_eq' Finset.univ _ _ |>.trans (if_pos (Finset.mem_univ _)))

theorem spread_at (B : FVec Ideal S640x20 .f32) (r c : Fin 640) :
    spread B (ix2 r c) = if r.val / 20 = c.val / 20 then B (ix2 r ⟨c.val % 20, Nat.mod_lt _ (by norm_num)⟩) else 0 := by
  pointwise [spread, k1_pay6, k1_pay3, k1_pay4, k1_pay5]
  rw [product]
  show Scalar.select (IntOp.cmpi .eq (wordDiv (BitVec.ofNat 32 r.val)) (wordDiv (BitVec.ofNat 32 c.val))) _ _ = _
  rw [wordDiv_eq, wordDiv_eq, small_eq (by omega) (by omega)]
  by_cases h : r.val / 20 = c.val / 20
  · rw [if_pos h, decide_eq_true h]; rfl
  · rw [if_neg h, decide_eq_false h]; rfl

end Cert.Proof.Band

end
-- ==== Proof.Answer.lean ====
/-
  The kernel's result over the extended reals, element by element: at a row and a column of one block of twenty, the
  ratio of the two boxes they name, except in block 248; zero everywhere else.
-/
module

public import proofs.«01_k».proof.Proof.Tables
public import proofs.«01_k».proof.Proof.Spread

@[expose] public section

noncomputable section

namespace Cert.Proof.Band

open Cert.KernelIdeal Cert.KernelIdeal.Gen
open Idealize.ShloMosaic

/-- The element at row `a` and column `b`. -/
def element (x : S250x20x4.Idx → Ideal .f32) (a b : ℕ) : Ideal .f32 :=
  if a / 20 = b / 20 ∧ a / 20 ≠ 248 then
    iou (boxAt x (after_ 1 (a / 20)) ⟨a % 20, Nat.mod_lt _ (by norm_num)⟩) (boxAt x (after_ 2 (a / 20)) ⟨b % 20, Nat.mod_lt _ (by norm_num)⟩)
  else zeroF

theorem zeroF_eq : (zeroF : Ideal .f32) = 0 := Ideal.ofBits_zero .f32

/-- A band that holds the entries of two rolled tables, read at row `a`. -/
theorem band_at (x : S250x20x4.Idx → Ideal .f32) {f : S5120x20.Idx → Ideal .f32}
    (hf : ∀ w, TileOK (padded (rollOne x)) (padded (rollTwo x)) w f) (a : Fin 5120) (ha : a.val < 5000) (j : Fin 20) :
    f (ix2 a j) = if a.val / 20 ≠ 248 then iou (boxAt x (after_ 1 (a.val / 20)) ⟨a.val % 20, Nat.mod_lt _ (by norm_num)⟩) (boxAt x (after_ 2 (a.val / 20)) j) else zeroF := by
  have hg : gRow ⟨a.val / 160, by omega⟩ ⟨a.val % 160, by omega⟩ = a := Fin.ext (Nat.div_add_mod a.val 160)
  have h := hf ⟨a.val / 160, by omega⟩ ⟨a.val % 160, by omega⟩ j (by rw [hg]; exact ha)
  rw [hg] at h
  rw [ix2_eq_valueIdx, h]
  unfold entry
  have hb : 8 * (a.val / 160) + a.val % 160 / 20 = a.val / 20 := by omega
  simp only [hb]
  refine if_congr Iff.rfl ?_ rfl
  have hm : gRow ⟨a.val / 160, by omega⟩ (mate ⟨a.val % 160, by omega⟩ j) = ⟨a.val / 20 * 20 + j.val, by omega⟩ :=
    Fin.ext (by show 160 * (a.val / 160) + (a.val % 160 / 20 * 20 + j.val) = a.val / 20 * 20 + j.val; omega)
  have e1 := first_row x a ha
  have e2 := second_row x ⟨a.val / 20 * 20 + j.val, by omega⟩ (by show a.val / 20 * 20 + j.val < 5000; omega)
  have hd : (a.val / 20 * 20 + j.val) / 20 = a.val / 20 := by omega
  have hj : (a.val / 20 * 20 + j.val) % 20 = j.val := by omega
  simp only [hd, hj] at e2
  refine congrArg₂ iou ?_ ?_
  · rw [← e1]; funext c
    show padded (rollOne x) (ValueIdx.ix2 (gRow _ _) c) = _
    rw [ix2_eq_valueIdx, hg]
  · rw [← e2]; funext c
    show padded (rollTwo x) (ValueIdx.ix2 (gRow _ _) c) = _
    rw [ix2_eq_valueIdx]; exact congrArg (fun r => padded (rollTwo x) (ValueIdx.ix2 r c)) hm

/-- The spread of such a band. -/
theorem spreadAll_at (x : S250x20x4.Idx → Ideal .f32) {f : S5120x20.Idx → Ideal .f32}
    (hf : ∀ w, TileOK (padded (rollOne x)) (padded (rollTwo x)) w f) (y : S5000x5000.Idx) :
    spreadAll f y = element x (y 0).val (y 1).val := by
  have h0 : (y 0).val < 5000 := (y 0).isLt
  have h1 : (y 1).val < 5000 := (y 1).isLt
  unfold spreadAll
  by_cases hin : 640 * ((y 0).val / 640) ≤ (y 1).val ∧ (y 1).val < 640 * ((y 0).val / 640) + 640
  · rw [strip_spread ⟨(y 1).val - 640 * ((y 0).val / 640), by omega⟩ (by show (y 1).val = _; simp only []; omega)]
    refine (congrArg (spread _) (ix2_eq_valueIdx _ _).symm).trans ((spread_at _ _ _).trans ?_)
    show (if (y 0).val % 640 / 20 = ((y 1).val - 640 * ((y 0).val / 640)) / 20 then f (ValueIdx.ix2 ⟨640 * ((y 0).val / 640) + (y 0).val % 640, _⟩
      ⟨((y 1).val - 640 * ((y 0).val / 640)) % 20, _⟩) else 0) = _
    have hr : 640 * ((y 0).val / 640) + (y 0).val % 640 = (y 0).val := Nat.div_add_mod _ _
    have hc : ((y 1).val - 640 * ((y 0).val / 640)) % 20 = (y 1).val % 20 := by omega
    have hq : (y 0).val % 640 / 20 = ((y 1).val - 640 * ((y 0).val / 640)) / 20 ↔ (y 0).val / 20 = (y 1).val / 20 := by omega
    simp only [hr, hc, hq]
    rw [← ix2_eq_valueIdx, band_at x hf ⟨(y 0).val, by omega⟩ h0]
    unfold element
    by_cases e : (y 0).val / 20 = (y 1).val / 20
    · rw [if_pos e]
      exact if_congr ⟨fun h => ⟨e, h⟩, fun h => h.2⟩ rfl rfl
    · rw [if_neg e, if_neg fun h => e h.1, zeroF_eq]
  · rw [strip_zero (by show (y 1).val < _ ∨ _ ≤ (y 1).val; omega)]
    unfold element
    rw [if_neg fun h => hin (by omega)]

end Cert.Proof.Band

end
-- ==== Proof.RefRatio.lean ====
/-
  The reference's ratios over the extended reals, pair by pair, and where each of them is written.
-/
module

public import proofs.«01_k».proof.Proof.RefTerm
public import proofs.«01_k».proof.Proof.Answer
public import Idealize.ShloMosaic.Lib.Routing.OpsPair

@[expose] public section

noncomputable section

namespace Cert.Proof.Ref

open Cert.ReferenceIdeal Cert.ReferenceIdeal.Gen
open Idealize.ShloMosaic

/-- The ratio of box `i` of frame `t` and box `j` of the frame after it. -/
theorem ratios_at (x : S250x20x4.Idx → Ideal .f32) (t : Fin 249) (i j : Fin 20) :
    ratios x (ix3 t i j) = Band.iou (Band.boxAt x ⟨t.val, by omega⟩ i) (Band.boxAt x ⟨1 + t.val, by omega⟩ j) := by
  pointwise [ratios, quotient, cross, sizeA, sizeB, overA, overB, a0, a1, a2, a3, b0, b1, b2, b3, coordA, coordB, early, late, zeros, onesA, onesB,
    Band.iou, Band.inter, Band.areaA, Band.areaB, Band.boxAt]

/-- The row, or column, of box `i` of pair `t`. -/
def place (t i : ℕ) : ℕ := (20 * (t + 249) + i) % 5000

theorem place_lt (t i : ℕ) : place t i < 5000 := Nat.mod_lt _ (by norm_num)

set_option maxRecDepth 8192 in
theorem number_at (t : Fin 249) (i : Fin 20) : reduce number (ix2 t i) = BitVec.ofNat 32 (place t.val i.val) := by
  pointwise [reduce, number, remainders, modulus]
  revert t i
  decide +kernel

/-- A place is below half the words, so that the wrap round leaves it. -/
theorem wrapped (t : Fin 249) (i : Fin 20) :
    Scalar.select (IntOp.cmpi .slt (reduce number (ix2 t i)) 0#32) (IntOp.addi (reduce number (ix2 t i)) 5000#32) (reduce number (ix2 t i))
      = BitVec.ofNat 32 (place t.val i.val) := by
  have := place_lt t.val i.val
  rw [number_at, Routing.wrap_of_lt]
  rw [BitVec.toNat_ofNat]; omega

theorem where_row (t : Fin 249) (i j : Fin 20) : where_ (reduce number) (ix4 t i j 0) = BitVec.ofNat 32 (place t.val i.val) := by
  rw [← wrapped]
  generalize reduce number = n
  pointwise [where_, stacked, overA, overB, rowAt, colAt]
theorem where_col (t : Fin 249) (i j : Fin 20) : where_ (reduce number) (ix4 t i j 1) = BitVec.ofNat 32 (place t.val j.val) := by
  rw [← wrapped]
  generalize reduce number = n
  pointwise [where_, stacked, overA, overB, rowAt, colAt]

/-- A ratio is written at the row and the column its words name. -/
theorem lands (w : S249x20x20x2.Idx → BitVec 32) (t : Fin 249) (i j : Fin 20) (y : S5000x5000.Idx) :
    scatter_S5000x5000_S249x20x20x2_S249x20x20_n_01_01_3.resultIdx? (ix3 t i j) w = some y
      ↔ (w (ix4 t i j 0)).toInt = (y 0).val ∧ (w (ix4 t i j 1)).toInt = (y 1).val := by
  have hs0 : scatter_S5000x5000_S249x20x20x2_S249x20x20_n_01_01_3.start (ix3 t i j) w 0 = (w (ix4 t i j 0)).toInt := by
    refine congrArg (fun k => (w k).toInt) (funext fun a => ?_)
    match a with
    | ⟨0, _⟩ => rfl
    | ⟨1, _⟩ => rfl
    | ⟨2, _⟩ => rfl
    | ⟨3, _⟩ => rfl
  have hs1 : scatter_S5000x5000_S249x20x20x2_S249x20x20_n_01_01_3.start (ix3 t i j) w 1 = (w (ix4 t i j 1)).toInt := by
    refine congrArg (fun k => (w k).toInt) (funext fun a => ?_)
    match a with
    | ⟨0, _⟩ => rfl
    | ⟨1, _⟩ => rfl
    | ⟨2, _⟩ => rfl
    | ⟨3, _⟩ => rfl
  have hw0 : scatter_S5000x5000_S249x20x20x2_S249x20x20_n_01_01_3.window (ix3 t i j) 0 = 0 := rfl
  have hw1 : scatter_S5000x5000_S249x20x20x2_S249x20x20_n_01_01_3.window (ix3 t i j) 1 = 0 := rfl
  rw [Routing.resultIdx?_eq_some]
  constructor
  · intro h
    have h0 := h 0; have h1 := h 1
    rw [hs0, hw0] at h0; rw [hs1, hw1] at h1
    exact ⟨by simpa using h0, by simpa using h1⟩
  · rintro ⟨h0, h1⟩ a
    match a with
    | ⟨0, _⟩ => exact (congrArg₂ (fun (p : ℤ) (q : ℕ) => p + (q : ℤ)) hs0 hw0).trans (by simpa using h0)
    | ⟨1, _⟩ => exact (congrArg₂ (fun (p : ℤ) (q : ℕ) => p + (q : ℤ)) hs1 hw1).trans (by simpa using h1)

/-- So ratio `(t, i, j)` goes to row `place t i` and column `place t j`. -/
theorem lands_at (t : Fin 249) (i j : Fin 20) (y : S5000x5000.Idx) :
    scatter_S5000x5000_S249x20x20x2_S249x20x20_n_01_01_3.resultIdx? (ix3 t i j) (where_ (reduce number)) = some y
      ↔ place t.val i.val = (y 0).val ∧ place t.val j.val = (y 1).val := by
  have h : ∀ n, n < 5000 → (BitVec.ofNat 32 n).toInt = (n : ℤ) := fun n hn => by
    rw [BitVec.toInt_eq_toNat_of_lt (by rw [BitVec.toNat_ofNat]; omega), BitVec.toNat_ofNat]; omega
  rw [lands, where_row, where_col, h _ (place_lt ..), h _ (place_lt ..)]
  omega

end Cert.Proof.Ref

end
-- ==== Proof.RefAnswer.lean ====
/-
  The reference's result over the extended reals, element by element: it is the kernel's. Pair `t` fills block `t - 1`,
  pair 0 block 249, and no pair fills block 248.
-/
module

public import proofs.«01_k».proof.Proof.RefRatio
public import Idealize.ShloMosaic.Lib.Routing.OpsSet

@[expose] public section

noncomputable section

namespace Cert.Proof.Ref

open Cert.ReferenceIdeal Cert.ReferenceIdeal.Gen
open Idealize.ShloMosaic

theorem place_iff (t : Fin 249) (i : Fin 20) (a : ℕ) (ha : a < 5000) :
    place t.val i.val = a ↔ t.val = (a / 20 + 1) % 250 ∧ i.val = a % 20 := by
  have := t.isLt; have := i.isLt
  unfold place; omega

/-- The ratio of pair `t`, in the words of the block it fills. -/
theorem ratios_block (x : S250x20x4.Idx → Ideal .f32) (t : Fin 249) (i j : Fin 20) (a b : ℕ)
    (ht : t.val = (a / 20 + 1) % 250) (hi : i.val = a % 20) (hj : j.val = b % 20) :
    ratios x (ix3 t i j) = Band.iou (Band.boxAt x (Band.after_ 1 (a / 20)) ⟨a % 20, Nat.mod_lt _ (by norm_num)⟩)
      (Band.boxAt x (Band.after_ 2 (a / 20)) ⟨b % 20, Nat.mod_lt _ (by norm_num)⟩) := by
  have := t.isLt
  have e1 : (⟨t.val, by omega⟩ : Fin 250) = Band.after_ 1 (a / 20) := Fin.ext ht
  have e2 : (⟨1 + t.val, by omega⟩ : Fin 250) = Band.after_ 2 (a / 20) := Fin.ext (by show 1 + t.val = (a / 20 + 2) % 250; omega)
  have e3 : i = ⟨a % 20, Nat.mod_lt _ (by norm_num)⟩ := Fin.ext hi
  have e4 : j = ⟨b % 20, Nat.mod_lt _ (by norm_num)⟩ := Fin.ext hj
  rw [ratios_at, e1, e2, e3, e4]

/-- What is written, at an element. -/
theorem written_at (x : S250x20x4.Idx → Ideal .f32) (y : S5000x5000.Idx) :
    written (where_ (reduce number)) (ratios x) y = Band.element x (y 0).val (y 1).val := by
  have h0 : (y 0).val < 5000 := (y 0).isLt
  have h1 : (y 1).val < 5000 := (y 1).isLt
  have split : ∀ k : S249x20x20.Idx, ∃ (t : Fin 249) (i j : Fin 20), k = ix3 t i j := fun k =>
    ⟨k 0, k 1, k 2, funext fun a => match a with | ⟨0, _⟩ => rfl | ⟨1, _⟩ => rfl | ⟨2, _⟩ => rfl⟩
  unfold written Band.element
  by_cases e : (y 0).val / 20 = (y 1).val / 20 ∧ (y 0).val / 20 ≠ 248
  · rw [if_pos e]
    refine Routing.scatter_set_hit _ _ _ _ _ _ (fun k hk => ?_)
      (ix3 ⟨((y 0).val / 20 + 1) % 250, by omega⟩ ⟨(y 0).val % 20, by omega⟩ ⟨(y 1).val % 20, by omega⟩) ?_
    · obtain ⟨t, i, j, rfl⟩ := split k
      rw [lands_at, place_iff _ _ _ h0, place_iff _ _ _ h1] at hk
      exact ratios_block x t i j _ _ hk.1.1 hk.1.2 hk.2.2
    · rw [lands_at, place_iff _ _ _ h0, place_iff _ _ _ h1]
      exact ⟨⟨rfl, rfl⟩, by show ((y 0).val / 20 + 1) % 250 = _; rw [e.1], rfl⟩
  · rw [if_neg e]
    refine (Routing.scatter_set_miss _ _ _ _ _ fun k hk => e ?_).trans rfl
    obtain ⟨t, i, j, rfl⟩ := split k
    have := t.isLt
    rw [lands_at, place_iff _ _ _ h0, place_iff _ _ _ h1] at hk
    omega

end Cert.Proof.Ref

end
-- ==== Proof.Values.lean ====
/-
  The idealized kernel and the idealized reference return the same array.
-/
module

public import proofs.«01_k».proof.Proof.Frames
public import proofs.«01_k».proof.Proof.RefAnswer

@[expose] public section

noncomputable section

namespace Cert.Proof

open Idealize.ShloMosaic Idealize.SL.Sem

attribute [local instance] Cert.Kernel.Gen.facts Cert.KernelIdeal.Gen.facts Cert.ReferenceIdeal.Gen.facts

/-- The array both return. -/
def answer (x : Cert.KernelIdeal.S250x20x4.Idx → Ideal .f32) : Cert.KernelIdeal.S1x5000x5000.Idx → Ideal .f32 :=
  shapeCast Cert.KernelIdeal.S1x5000x5000 (fun y : Cert.KernelIdeal.S5000x5000.Idx => Band.element x (y 0).val (y 1).val)
    Cert.KernelIdeal.Gen.shapeCasts_S5000x5000_S1x5000x5000

theorem result_eq (x : Cert.ReferenceIdeal.S250x20x4.Idx → Ideal .f32) : Ref.result x = answer x := by
  unfold Ref.result
  rw [show Ref.written (Ref.where_ (Ref.reduce Ref.number)) (Ref.ratios x) = _ from funext (Ref.written_at x)]
  rfl

theorem algebraic : Cert.algebraic_KernelIdeal_ReferenceIdeal := fun m ρ m' ρ' _ hm =>
  ⟨fun c => answer (m (Band.inLoc c)),
    (θ_run Cert.KernelIdeal.defs _ _).mono
      (fun r h c => by
        obtain ⟨hin, f, hf, hout⟩ := h.1 c
        exact ⟨hout.trans (by rw [show Band.spreadAll f = _ from funext (Band.spreadAll_at (m (Band.inLoc c)) hf)]; rfl), hin⟩)
      (Band.run_main (F := Ideal) m ρ),
    (θ_run Cert.ReferenceIdeal.defs _ _).mono
      (fun r h c => ⟨(h c).1.trans ((result_eq _).trans (congrArg answer (hm c))), (h c).2⟩) (Ref.run (F := Ideal) m' ρ')⟩

end Cert.Proof

end
-- ==== Proof.lean ====
/-
  The claim about the pairwise overlaps of boxes: the parts proved in the modules under Proof/, put together.
-/
module

public import proofs.«01_k».proof.Defs
public import proofs.«01_k».proof.Proof.Values

@[expose] public section

noncomputable section

namespace Cert.Proof

theorem claim : Cert.Claim :=
  ⟨Cert.Kernel.Gen.facts, Cert.KernelIdeal.Gen.facts, Cert.ReferenceIdeal.Gen.facts,
    ends_kernel, ends_ideal, ends_reference, trivial, algebraic⟩

end Cert.Proof

end
